-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_cell [hPre_in_cell : Cert.Pre_in_cell.Facts] (m : (ℓ : Loc Cert.KernelIdeal.nD Cert.KernelIdeal.τ Cert.KernelIdeal.sig) → Buf (Elt Ideal) ℓ) : Prop :=
  ∀ c : Dev Cert.KernelIdeal.nD,
    (Cert.Pre_in_cell.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_cell [hPre_in_cell : Cert.Pre_in_cell.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_cell.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_cell [hKernelIdeal : Cert.KernelIdeal.Facts] [hPre_in_cell : Cert.Pre_in_cell.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_cell m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_cell [hReferenceIdeal : Cert.ReferenceIdeal.Facts] [hPre_in_cell : Cert.Pre_in_cell.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_cell m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_in_cell [hKernelIdeal : Cert.KernelIdeal.Facts] [hReferenceIdeal : Cert.ReferenceIdeal.Facts] [hPre_in_cell : Cert.Pre_in_cell.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_cell m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v273) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_cell : Cert.Pre_in_cell.Facts),
    quiescent_Kernel (hKernel := hKernel)
    ∧ quiescent_KernelIdeal (hKernelIdeal := hKernelIdeal)
    ∧ quiescent_KernelIdeal_pre_in_cell (hKernelIdeal := hKernelIdeal) (hPre_in_cell := hPre_in_cell)
    ∧ quiescent_ReferenceIdeal (hReferenceIdeal := hReferenceIdeal)
    ∧ quiescent_ReferenceIdeal_pre_in_cell (hReferenceIdeal := hReferenceIdeal) (hPre_in_cell := hPre_in_cell)
    ∧ preserves_Kernel_KernelIdeal
    ∧ algebraic_KernelIdeal_ReferenceIdeal_pre_in_cell (hKernelIdeal := hKernelIdeal) (hReferenceIdeal := hReferenceIdeal) (hPre_in_cell := hPre_in_cell)
-- ==== Pre_in_cell.lean ====
abbrev S256x3 : Shape := ⟨2, ![256, 3]⟩
abbrev S3 : Shape := ⟨1, ![3]⟩
abbrev S9x9x9x31x768 : Shape := ⟨5, ![9, 9, 9, 31, 768]⟩
abbrev S_ : Shape := ⟨0, ![]⟩

class Facts : Prop where
  bcast_S_S256x3 : S_.BroadcastsInDim S256x3 (![] : Fin 0 → Fin S256x3.rank)

variable [Facts]

def fn {F : FTy → Type} [FloatOps F] (main_arg0 : FVec F S256x3 .f32) (main_arg1 : FVec F S3 .f32) (main_arg2 : FVec F S9x9x9x31x768 .f32) : IVec S256x3 1 :=
  let main_cst : FVec F S_ .f32 := constant S_ .f32 0x00000000#32
  let main_v0 : FVec F S256x3 .f32 := broadcastInDim S256x3 ![] bcast_S_S256x3 main_cst
  let main_v1 : IVec S256x3 1 := cmpf .oge main_arg0 main_v0
  let main_cst_0 : FVec F S_ .f32 := constant S_ .f32 0x3F800000#32
  let main_v2 : FVec F S256x3 .f32 := broadcastInDim S256x3 ![] bcast_S_S256x3 main_cst_0
  let main_v3 : IVec S256x3 1 := cmpf .ole main_arg0 main_v2
  let main_v4 : IVec S256x3 1 := andi main_v1 main_v3
  main_v4
-- ==== Kernel.lean ====
abbrev S256x3 : Shape := ⟨2, ![256, 3]⟩
abbrev S3 : Shape := ⟨1, ![3]⟩
abbrev S9x9x9x31x768 : Shape := ⟨5, ![9, 9, 9, 31, 768]⟩
abbrev S_ : Shape := ⟨0, ![]⟩
abbrev S256x256 : Shape := ⟨2, ![256, 256]⟩
abbrev S1x3 : Shape := ⟨2, ![1, 3]⟩
abbrev S30x768 : Shape := ⟨2, ![30, 768]⟩
abbrev S2x2x2x31x768 : Shape := ⟨5, ![2, 2, 2, 31, 768]⟩
abbrev S255x3 : Shape := ⟨2, ![255, 3]⟩
abbrev S256 : Shape := ⟨1, ![256]⟩
abbrev S256x1 : Shape := ⟨2, ![256, 1]⟩
abbrev S256x8 : Shape := ⟨2, ![256, 8]⟩
abbrev S1x1x1x31x768 : Shape := ⟨5, ![1, 1, 1, 31, 768]⟩
abbrev S31x768 : Shape := ⟨2, ![31, 768]⟩
abbrev S1x768 : Shape := ⟨2, ![1, 768]⟩
abbrev S8x768 : Shape := ⟨2, ![8, 768]⟩
abbrev S256x768 : Shape := ⟨2, ![256, 768]⟩

abbrev nBuf : Space → Nat
  | .hbm => 16
  | .vmem => 5
  | .smem => 0
  | _ => 0

abbrev bufTy : (tb : Table) → Fin (tcTables nBuf tb) → BufTy
  | .hbm, ⟨0, _⟩ => ⟨S256x3, .f32⟩
  | .hbm, ⟨1, _⟩ => ⟨S3, .f32⟩
  | .hbm, ⟨2, _⟩ => ⟨S9x9x9x31x768, .f32⟩
  | .hbm, ⟨3, _⟩ => ⟨S_, .bf16⟩
  | .hbm, ⟨4, _⟩ => ⟨S256x256, .bf16⟩
  | .hbm, ⟨5, _⟩ => ⟨S256x256, .i32⟩
  | .hbm, ⟨6, _⟩ => ⟨S_, .i32⟩
  | .hbm, ⟨7, _⟩ => ⟨S256x256, .i32⟩
  | .hbm, ⟨8, _⟩ => ⟨S256x256, .i32⟩
  | .hbm, ⟨9, _⟩ => ⟨S256x256, .i32⟩
  | .hbm, ⟨10, _⟩ => ⟨S256x256, .i1⟩
  | .hbm, ⟨11, _⟩ => ⟨S_, .bf16⟩
  | .hbm, ⟨12, _⟩ => ⟨S256x256, .bf16⟩
  | .hbm, ⟨13, _⟩ => ⟨S256x256, .bf16⟩
  | .hbm, ⟨14, _⟩ => ⟨S1x3, .f32⟩
  | .hbm, ⟨15, _⟩ => ⟨S30x768, .f32⟩
  | .local _ .vmem, ⟨0, _⟩ => ⟨S256x3, .f32⟩
  | .local _ .vmem, ⟨1, _⟩ => ⟨S1x3, .f32⟩
  | .local _ .vmem, ⟨2, _⟩ => ⟨S256x256, .bf16⟩
  | .local _ .vmem, ⟨3, _⟩ => ⟨S2x2x2x31x768, .f32⟩
  | .local _ .vmem, ⟨4, _⟩ => ⟨S30x768, .f32⟩
  | _, _ => ⟨S256x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_cst : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 5 → Nat :=
  let arg0 : BitVec 32 := BitVec.ofNat 32 (i 0).val
  let c2_i32 : BitVec 32 := 2#32
  let c2_i32_0 : BitVec 32 := 2#32
  let c2_i32_1 : BitVec 32 := 2#32
  let c0_i32 : BitVec 32 := 0#32
  let c0_i32_2 : BitVec 32 := 0#32
  let c0_i32_3 : BitVec 32 := 0#32
  ![c2_i32.toNat, c2_i32_0.toNat, c2_i32_1.toNat, c0_i32.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x2x2x31x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S30x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S256x3 : Shape := ⟨2, ![256, 3]⟩
abbrev S3 : Shape := ⟨1, ![3]⟩
abbrev S9x9x9x31x768 : Shape := ⟨5, ![9, 9, 9, 31, 768]⟩
abbrev S256x1 : Shape := ⟨2, ![256, 1]⟩
abbrev S256 : Shape := ⟨1, ![256]⟩
abbrev S256x1x1 : Shape := ⟨3, ![256, 1, 1]⟩
abbrev S_ : Shape := ⟨0, ![]⟩
abbrev S256x31x768 : Shape := ⟨3, ![256, 31, 768]⟩
abbrev S256x30x768 : Shape := ⟨3, ![256, 30, 768]⟩
abbrev S256x1x768 : Shape := ⟨3, ![256, 1, 768]⟩
abbrev S256x768 : Shape := ⟨2, ![256, 768]⟩
abbrev S255x3 : Shape := ⟨2, ![255, 3]⟩
abbrev S255 : Shape := ⟨1, ![255]⟩
abbrev S1x3 : Shape := ⟨2, ![1, 3]⟩
abbrev S1 : Shape := ⟨1, ![1]⟩
abbrev S1x768 : Shape := ⟨2, ![1, 768]⟩
abbrev S255x768 : Shape := ⟨2, ![255, 768]⟩
abbrev S30x768 : Shape := ⟨2, ![30, 768]⟩

abbrev nBuf : Space → Nat
  | .hbm => 348
  | .vmem => 0
  | .smem => 0
  | _ => 0

abbrev hbmTy0_0 (i : Nat) : BufTy := match i % 128 with
  | 0 => ⟨S256x3, .f32⟩
  | 1 => ⟨S3, .f32⟩
  | 2 => ⟨S9x9x9x31x768, .f32⟩
  | 3 => ⟨S256x1, .f32⟩
  | 4 => ⟨S256, .f32⟩
  | 5 => ⟨S256x1, .f32⟩
  | 6 => ⟨S256, .f32⟩
  | 7 => ⟨S256x1, .f32⟩
  | 8 => ⟨S256, .f32⟩
  | 9 => ⟨S256, .f32⟩
  | 10 => ⟨S256, .f32⟩
  | 11 => ⟨S256x1x1, .f32⟩
  | 12 => ⟨S256, .f32⟩
  | 13 => ⟨S256, .f32⟩
  | 14 => ⟨S256x1x1, .f32⟩
  | 15 => ⟨S256, .f32⟩
  | 16 => ⟨S256, .f32⟩
  | 17 => ⟨S256x1x1, .f32⟩
  | 18 => ⟨S_, .f32⟩
  | 19 => ⟨S256, .f32⟩
  | 20 => ⟨S256, .f32⟩
  | 21 => ⟨S_, .f32⟩
  | 22 => ⟨S256, .f32⟩
  | 23 => ⟨S256, .f32⟩
  | 24 => ⟨S_, .f32⟩
  | 25 => ⟨S256, .f32⟩
  | 26 => ⟨S256, .f32⟩
  | 27 => ⟨S256, .f32⟩
  | 28 => ⟨S256, .i32⟩
  | 29 => ⟨S256, .f32⟩
  | 30 => ⟨S256, .i32⟩
  | 31 => ⟨S256, .f32⟩
  | 32 => ⟨S256, .i32⟩
  | 33 => ⟨S256, .f32⟩
  | 34 => ⟨S256, .i32⟩
  | 35 => ⟨S256, .f32⟩
  | 36 => ⟨S256, .i32⟩
  | 37 => ⟨S256, .f32⟩
  | 38 => ⟨S256, .i32⟩
  | 39 => ⟨S_, .i32⟩
  | 40 => ⟨S256, .i32⟩
  | 41 => ⟨S256, .i1⟩
  | 42 => ⟨S_, .i32⟩
  | 43 => ⟨S256, .i32⟩
  | 44 => ⟨S256, .i32⟩
  | 45 => ⟨S256, .i32⟩
  | 46 => ⟨S_, .i32⟩
  | 47 => ⟨S256, .i32⟩
  | 48 => ⟨S256, .i1⟩
  | 49 => ⟨S_, .i32⟩
  | 50 => ⟨S256, .i32⟩
  | 51 => ⟨S256, .i32⟩
  | 52 => ⟨S256, .i32⟩
  | 53 => ⟨S_, .i32⟩
  | 54 => ⟨S256, .i32⟩
  | 55 => ⟨S256, .i1⟩
  | 56 => ⟨S_, .i32⟩
  | 57 => ⟨S256, .i32⟩
  | 58 => ⟨S256, .i32⟩
  | 59 => ⟨S256, .i32⟩
  | 60 => ⟨S256x1, .i32⟩
  | 61 => ⟨S256x1, .i32⟩
  | 62 => ⟨S256x1, .i32⟩
  | 63 => ⟨S256x3, .i32⟩
  | 64 => ⟨S256x31x768, .f32⟩
  | 65 => ⟨S_, .f32⟩
  | 66 => ⟨S256x1x1, .f32⟩
  | 67 => ⟨S256x1x1, .f32⟩
  | 68 => ⟨S256x31x768, .f32⟩
  | 69 => ⟨S256x31x768, .f32⟩
  | 70 => ⟨S_, .i32⟩
  | 71 => ⟨S256, .i32⟩
  | 72 => ⟨S256, .i1⟩
  | 73 => ⟨S_, .i32⟩
  | 74 => ⟨S256, .i32⟩
  | 75 => ⟨S256, .i32⟩
  | 76 => ⟨S256, .i32⟩
  | 77 => ⟨S_, .i32⟩
  | 78 => ⟨S256, .i32⟩
  | 79 => ⟨S256, .i1⟩
  | 80 => ⟨S_, .i32⟩
  | 81 => ⟨S256, .i32⟩
  | 82 => ⟨S256, .i32⟩
  | 83 => ⟨S256, .i32⟩
  | 84 => ⟨S_, .i32⟩
  | 85 => ⟨S256, .i32⟩
  | 86 => ⟨S256, .i1⟩
  | 87 => ⟨S_, .i32⟩
  | 88 => ⟨S256, .i32⟩
  | 89 => ⟨S256, .i32⟩
  | 90 => ⟨S256, .i32⟩
  | 91 => ⟨S256x1, .i32⟩
  | 92 => ⟨S256x1, .i32⟩
  | 93 => ⟨S256x1, .i32⟩
  | 94 => ⟨S256x3, .i32⟩
  | 95 => ⟨S256x31x768, .f32⟩
  | 96 => ⟨S256x31x768, .f32⟩
  | 97 => ⟨S256x31x768, .f32⟩
  | 98 => ⟨S256x31x768, .f32⟩
  | 99 => ⟨S_, .i32⟩
  | 100 => ⟨S256, .i32⟩
  | 101 => ⟨S256, .i1⟩
  | 102 => ⟨S_, .i32⟩
  | 103 => ⟨S256, .i32⟩
  | 104 => ⟨S256, .i32⟩
  | 105 => ⟨S256, .i32⟩
  | 106 => ⟨S_, .i32⟩
  | 107 => ⟨S256, .i32⟩
  | 108 => ⟨S256, .i1⟩
  | 109 => ⟨S_, .i32⟩
  | 110 => ⟨S256, .i32⟩
  | 111 => ⟨S256, .i32⟩
  | 112 => ⟨S256, .i32⟩
  | 113 => ⟨S_, .i32⟩
  | 114 => ⟨S256, .i32⟩
  | 115 => ⟨S256, .i1⟩
  | 116 => ⟨S_, .i32⟩
  | 117 => ⟨S256, .i32⟩
  | 118 => ⟨S256, .i32⟩
  | 119 => ⟨S256, .i32⟩
  | 120 => ⟨S256x1, .i32⟩
  | 121 => ⟨S256x1, .i32⟩
  | 122 => ⟨S256x1, .i32⟩
  | 123 => ⟨S256x3, .i32⟩
  | 124 => ⟨S256x31x768, .f32⟩
  | 125 => ⟨S_, .f32⟩
  | 126 => ⟨S256x1x1, .f32⟩
  | 127 => ⟨S256x1x1, .f32⟩
  | _ => ⟨S256x3, .f32⟩

abbrev hbmTy0_1 (i : Nat) : BufTy := match i % 128 with
  | 0 => ⟨S256x31x768, .f32⟩
  | 1 => ⟨S256x31x768, .f32⟩
  | 2 => ⟨S_, .i32⟩
  | 3 => ⟨S256, .i32⟩
  | 4 => ⟨S256, .i1⟩
  | 5 => ⟨S_, .i32⟩
  | 6 => ⟨S256, .i32⟩
  | 7 => ⟨S256, .i32⟩
  | 8 => ⟨S256, .i32⟩
  | 9 => ⟨S_, .i32⟩
  | 10 => ⟨S256, .i32⟩
  | 11 => ⟨S256, .i1⟩
  | 12 => ⟨S_, .i32⟩
  | 13 => ⟨S256, .i32⟩
  | 14 => ⟨S256, .i32⟩
  | 15 => ⟨S256, .i32⟩
  | 16 => ⟨S_, .i32⟩
  | 17 => ⟨S256, .i32⟩
  | 18 => ⟨S256, .i1⟩
  | 19 => ⟨S_, .i32⟩
  | 20 => ⟨S256, .i32⟩
  | 21 => ⟨S256, .i32⟩
  | 22 => ⟨S256, .i32⟩
  | 23 => ⟨S256x1, .i32⟩
  | 24 => ⟨S256x1, .i32⟩
  | 25 => ⟨S256x1, .i32⟩
  | 26 => ⟨S256x3, .i32⟩
  | 27 => ⟨S256x31x768, .f32⟩
  | 28 => ⟨S256x31x768, .f32⟩
  | 29 => ⟨S256x31x768, .f32⟩
  | 30 => ⟨S256x31x768, .f32⟩
  | 31 => ⟨S_, .f32⟩
  | 32 => ⟨S256x1x1, .f32⟩
  | 33 => ⟨S256x1x1, .f32⟩
  | 34 => ⟨S256x31x768, .f32⟩
  | 35 => ⟨S256x31x768, .f32⟩
  | 36 => ⟨S256x31x768, .f32⟩
  | 37 => ⟨S256x31x768, .f32⟩
  | 38 => ⟨S256x31x768, .f32⟩
  | 39 => ⟨S_, .i32⟩
  | 40 => ⟨S256, .i32⟩
  | 41 => ⟨S256, .i1⟩
  | 42 => ⟨S_, .i32⟩
  | 43 => ⟨S256, .i32⟩
  | 44 => ⟨S256, .i32⟩
  | 45 => ⟨S256, .i32⟩
  | 46 => ⟨S_, .i32⟩
  | 47 => ⟨S256, .i32⟩
  | 48 => ⟨S256, .i1⟩
  | 49 => ⟨S_, .i32⟩
  | 50 => ⟨S256, .i32⟩
  | 51 => ⟨S256, .i32⟩
  | 52 => ⟨S256, .i32⟩
  | 53 => ⟨S_, .i32⟩
  | 54 => ⟨S256, .i32⟩
  | 55 => ⟨S256, .i1⟩
  | 56 => ⟨S_, .i32⟩
  | 57 => ⟨S256, .i32⟩
  | 58 => ⟨S256, .i32⟩
  | 59 => ⟨S256, .i32⟩
  | 60 => ⟨S256x1, .i32⟩
  | 61 => ⟨S256x1, .i32⟩
  | 62 => ⟨S256x1, .i32⟩
  | 63 => ⟨S256x3, .i32⟩
  | 64 => ⟨S256x31x768, .f32⟩
  | 65 => ⟨S_, .f32⟩
  | 66 => ⟨S256x1x1, .f32⟩
  | 67 => ⟨S256x1x1, .f32⟩
  | 68 => ⟨S256x31x768, .f32⟩
  | 69 => ⟨S256x31x768, .f32⟩
  | 70 => ⟨S_, .i32⟩
  | 71 => ⟨S256, .i32⟩
  | 72 => ⟨S256, .i1⟩
  | 73 => ⟨S_, .i32⟩
  | 74 => ⟨S256, .i32⟩
  | 75 => ⟨S256, .i32⟩
  | 76 => ⟨S256, .i32⟩
  | 77 => ⟨S_, .i32⟩
  | 78 => ⟨S256, .i32⟩
  | 79 => ⟨S256, .i1⟩
  | 80 => ⟨S_, .i32⟩
  | 81 => ⟨S256, .i32⟩
  | 82 => ⟨S256, .i32⟩
  | 83 => ⟨S256, .i32⟩
  | 84 => ⟨S_, .i32⟩
  | 85 => ⟨S256, .i32⟩
  | 86 => ⟨S256, .i1⟩
  | 87 => ⟨S_, .i32⟩
  | 88 => ⟨S256, .i32⟩
  | 89 => ⟨S256, .i32⟩
  | 90 => ⟨S256, .i32⟩
  | 91 => ⟨S256x1, .i32⟩
  | 92 => ⟨S256x1, .i32⟩
  | 93 => ⟨S256x1, .i32⟩
  | 94 => ⟨S256x3, .i32⟩
  | 95 => ⟨S256x31x768, .f32⟩
  | 96 => ⟨S256x31x768, .f32⟩
  | 97 => ⟨S256x31x768, .f32⟩
  | 98 => ⟨S256x31x768, .f32⟩
  | 99 => ⟨S_, .i32⟩
  | 100 => ⟨S256, .i32⟩
  | 101 => ⟨S256, .i1⟩
  | 102 => ⟨S_, .i32⟩
  | 103 => ⟨S256, .i32⟩
  | 104 => ⟨S256, .i32⟩
  | 105 => ⟨S256, .i32⟩
  | 106 => ⟨S_, .i32⟩
  | 107 => ⟨S256, .i32⟩
  | 108 => ⟨S256, .i1⟩
  | 109 => ⟨S_, .i32⟩
  | 110 => ⟨S256, .i32⟩
  | 111 => ⟨S256, .i32⟩
  | 112 => ⟨S256, .i32⟩
  | 113 => ⟨S_, .i32⟩
  | 114 => ⟨S256, .i32⟩
  | 115 => ⟨S256, .i1⟩
  | 116 => ⟨S_, .i32⟩
  | 117 => ⟨S256, .i32⟩
  | 118 => ⟨S256, .i32⟩
  | 119 => ⟨S256, .i32⟩
  | 120 => ⟨S256x1, .i32⟩
  | 121 => ⟨S256x1, .i32⟩
  | 122 => ⟨S256x1, .i32⟩
  | 123 => ⟨S256x3, .i32⟩
  | 124 => ⟨S256x31x768, .f32⟩
  | 125 => ⟨S_, .f32⟩
  | 126 => ⟨S256x1x1, .f32⟩
  | 127 => ⟨S256x1x1, .f32⟩
  | _ => ⟨S256x3, .f32⟩

abbrev hbmTy0_2 (i : Nat) : BufTy := match i % 128 with
  | 0 => ⟨S256x31x768, .f32⟩
  | 1 => ⟨S256x31x768, .f32⟩
  | 2 => ⟨S_, .i32⟩
  | 3 => ⟨S256, .i32⟩
  | 4 => ⟨S256, .i1⟩
  | 5 => ⟨S_, .i32⟩
  | 6 => ⟨S256, .i32⟩
  | 7 => ⟨S256, .i32⟩
  | 8 => ⟨S256, .i32⟩
  | 9 => ⟨S_, .i32⟩
  | 10 => ⟨S256, .i32⟩
  | 11 => ⟨S256, .i1⟩
  | 12 => ⟨S_, .i32⟩
  | 13 => ⟨S256, .i32⟩
  | 14 => ⟨S256, .i32⟩
  | 15 => ⟨S256, .i32⟩
  | 16 => ⟨S_, .i32⟩
  | 17 => ⟨S256, .i32⟩
  | 18 => ⟨S256, .i1⟩
  | 19 => ⟨S_, .i32⟩
  | 20 => ⟨S256, .i32⟩
  | 21 => ⟨S256, .i32⟩
  | 22 => ⟨S256, .i32⟩
  | 23 => ⟨S256x1, .i32⟩
  | 24 => ⟨S256x1, .i32⟩
  | 25 => ⟨S256x1, .i32⟩
  | 26 => ⟨S256x3, .i32⟩
  | 27 => ⟨S256x31x768, .f32⟩
  | 28 => ⟨S256x31x768, .f32⟩
  | 29 => ⟨S256x31x768, .f32⟩
  | 30 => ⟨S256x31x768, .f32⟩
  | 31 => ⟨S_, .f32⟩
  | 32 => ⟨S256x1x1, .f32⟩
  | 33 => ⟨S256x1x1, .f32⟩
  | 34 => ⟨S256x31x768, .f32⟩
  | 35 => ⟨S256x31x768, .f32⟩
  | 36 => ⟨S256x31x768, .f32⟩
  | 37 => ⟨S256x31x768, .f32⟩
  | 38 => ⟨S256x31x768, .f32⟩
  | 39 => ⟨S_, .f32⟩
  | 40 => ⟨S256x1x1, .f32⟩
  | 41 => ⟨S256x1x1, .f32⟩
  | 42 => ⟨S256x31x768, .f32⟩
  | 43 => ⟨S256x31x768, .f32⟩
  | 44 => ⟨S256x31x768, .f32⟩
  | 45 => ⟨S256x31x768, .f32⟩
  | 46 => ⟨S256x31x768, .f32⟩
  | 47 => ⟨S256x30x768, .f32⟩
  | 48 => ⟨S256x1x768, .f32⟩
  | 49 => ⟨S256x768, .f32⟩
  | 50 => ⟨S_, .f32⟩
  | 51 => ⟨S256x768, .f32⟩
  | 52 => ⟨S256x768, .f32⟩
  | 53 => ⟨S255x3, .f32⟩
  | 54 => ⟨S255x3, .f32⟩
  | 55 => ⟨S255x3, .f32⟩
  | 56 => ⟨S255x3, .f32⟩
  | 57 => ⟨S_, .f32⟩
  | 58 => ⟨S255, .f32⟩
  | 59 => ⟨S255, .f32⟩
  | 60 => ⟨S1x3, .f32⟩
  | 61 => ⟨S3, .f32⟩
  | 62 => ⟨S3, .f32⟩
  | 63 => ⟨S3, .f32⟩
  | 64 => ⟨S_, .f32⟩
  | 65 => ⟨S_, .f32⟩
  | 66 => ⟨S_, .f32⟩
  | 67 => ⟨S1, .f32⟩
  | 68 => ⟨S256, .f32⟩
  | 69 => ⟨S256x1, .f32⟩
  | 70 => ⟨S256x768, .f32⟩
  | 71 => ⟨S256x768, .f32⟩
  | 72 => ⟨S_, .f32⟩
  | 73 => ⟨S_, .f32⟩
  | 74 => ⟨S256x768, .f32⟩
  | 75 => ⟨S_, .f32⟩
  | 76 => ⟨S1x768, .f32⟩
  | 77 => ⟨S255x768, .f32⟩
  | 78 => ⟨S256x768, .f32⟩
  | 79 => ⟨S256x768, .f32⟩
  | 80 => ⟨S256x768, .f32⟩
  | 81 => ⟨S256x768, .f32⟩
  | 82 => ⟨S256x768, .f32⟩
  | 83 => ⟨S_, .f32⟩
  | 84 => ⟨S256x768, .f32⟩
  | 85 => ⟨S256x768, .f32⟩
  | 86 => ⟨S256x768, .f32⟩
  | 87 => ⟨S256x1x768, .f32⟩
  | 88 => ⟨S256x30x768, .f32⟩
  | 89 => ⟨S256x30x768, .f32⟩
  | 90 => ⟨S_, .f32⟩
  | 91 => ⟨S30x768, .f32⟩
  | _ => ⟨S256x3, .f32⟩

abbrev hbmTy (i : Nat) : BufTy := match i / 128 with
  | 0 => hbmTy0_0 i
  | 1 => hbmTy0_1 i
  | 2 => hbmTy0_2 i
  | _ => ⟨S256x3, .f32⟩

abbrev bufTy : (tb : Table) → Fin (tcTables nBuf tb) → BufTy
  | .hbm, ⟨i, _⟩ => hbmTy i
  | _, _ => ⟨S256x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_c : Ref sig .tc := ⟨.hbm, 39, rfl⟩
abbrev main_v33 : Ref sig .tc := ⟨.hbm, 40, rfl⟩
abbrev main_v34 : Ref sig .tc := ⟨.hbm, 41, rfl⟩
abbrev main_c_2 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_c_3 : Ref sig .tc := ⟨.hbm, 46, rfl⟩
abbrev main_v38 : Ref sig .tc := ⟨.hbm, 47, rfl⟩
abbrev main_v39 : Ref sig .tc := ⟨.hbm, 48, rfl⟩
abbrev main_c_4 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_c_5 : Ref sig .tc := ⟨.hbm, 53, rfl⟩
abbrev main_v43 : Ref sig .tc := ⟨.hbm, 54, rfl⟩
abbrev main_v44 : Ref sig .tc := ⟨.hbm, 55, rfl⟩
abbrev main_c_6 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_7 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_c_8 : Ref sig .tc := ⟨.hbm, 70, rfl⟩
abbrev main_v57 : Ref sig .tc := ⟨.hbm, 71, rfl⟩
abbrev main_v58 : Ref sig .tc := ⟨.hbm, 72, rfl⟩
abbrev main_c_9 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_c_10 : Ref sig .tc := ⟨.hbm, 77, rfl⟩
abbrev main_v62 : Ref sig .tc := ⟨.hbm, 78, rfl⟩
abbrev main_v63 : Ref sig .tc := ⟨.hbm, 79, rfl⟩
abbrev main_c_11 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_c_12 : Ref sig .tc := ⟨.hbm, 84, rfl⟩
abbrev main_v67 : Ref sig .tc := ⟨.hbm, 85, rfl⟩
abbrev main_v68 : Ref sig .tc := ⟨.hbm, 86, rfl⟩
abbrev main_c_13 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_c_14 : Ref sig .tc := ⟨.hbm, 99, rfl⟩
abbrev main_v80 : Ref sig .tc := ⟨.hbm, 100, rfl⟩
abbrev main_v81 : Ref sig .tc := ⟨.hbm, 101, rfl⟩
abbrev main_c_15 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_c_16 : Ref sig .tc := ⟨.hbm, 106, rfl⟩
abbrev main_v85 : Ref sig .tc := ⟨.hbm, 107, rfl⟩
abbrev main_v86 : Ref sig .tc := ⟨.hbm, 108, rfl⟩
abbrev main_c_17 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_c_18 : Ref sig .tc := ⟨.hbm, 113, rfl⟩
abbrev main_v90 : Ref sig .tc := ⟨.hbm, 114, rfl⟩
abbrev main_v91 : Ref sig .tc := ⟨.hbm, 115, rfl⟩
abbrev main_c_19 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_cst_20 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_c_21 : Ref sig .tc := ⟨.hbm, 130, rfl⟩
abbrev main_v104 : Ref sig .tc := ⟨.hbm, 131, rfl⟩
abbrev main_v105 : Ref sig .tc := ⟨.hbm, 132, rfl⟩
abbrev main_c_22 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_c_23 : Ref sig .tc := ⟨.hbm, 137, rfl⟩
abbrev main_v109 : Ref sig .tc := ⟨.hbm, 138, rfl⟩
abbrev main_v110 : Ref sig .tc := ⟨.hbm, 139, rfl⟩
abbrev main_c_24 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_c_25 : Ref sig .tc := ⟨.hbm, 144, rfl⟩
abbrev main_v114 : Ref sig .tc := ⟨.hbm, 145, rfl⟩
abbrev main_v115 : Ref sig .tc := ⟨.hbm, 146, rfl⟩
abbrev main_c_26 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_cst_27 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_c_28 : Ref sig .tc := ⟨.hbm, 167, rfl⟩
abbrev main_v134 : Ref sig .tc := ⟨.hbm, 168, rfl⟩
abbrev main_v135 : Ref sig .tc := ⟨.hbm, 169, rfl⟩
abbrev main_c_29 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_c_30 : Ref sig .tc := ⟨.hbm, 174, rfl⟩
abbrev main_v139 : Ref sig .tc := ⟨.hbm, 175, rfl⟩
abbrev main_v140 : Ref sig .tc := ⟨.hbm, 176, rfl⟩
abbrev main_c_31 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_c_32 : Ref sig .tc := ⟨.hbm, 181, rfl⟩
abbrev main_v144 : Ref sig .tc := ⟨.hbm, 182, rfl⟩
abbrev main_v145 : Ref sig .tc := ⟨.hbm, 183, rfl⟩
abbrev main_c_33 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_cst_34 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_c_35 : Ref sig .tc := ⟨.hbm, 198, rfl⟩
abbrev main_v158 : Ref sig .tc := ⟨.hbm, 199, rfl⟩
abbrev main_v159 : Ref sig .tc := ⟨.hbm, 200, rfl⟩
abbrev main_c_36 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_c_37 : Ref sig .tc := ⟨.hbm, 205, rfl⟩
abbrev main_v163 : Ref sig .tc := ⟨.hbm, 206, rfl⟩
abbrev main_v164 : Ref sig .tc := ⟨.hbm, 207, rfl⟩
abbrev main_c_38 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_c_39 : Ref sig .tc := ⟨.hbm, 212, rfl⟩
abbrev main_v168 : Ref sig .tc := ⟨.hbm, 213, rfl⟩
abbrev main_v169 : Ref sig .tc := ⟨.hbm, 214, rfl⟩
abbrev main_c_40 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_v177 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_c_41 : Ref sig .tc := ⟨.hbm, 227, rfl⟩
abbrev main_v181 : Ref sig .tc := ⟨.hbm, 228, rfl⟩
abbrev main_v182 : Ref sig .tc := ⟨.hbm, 229, rfl⟩
abbrev main_c_42 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_c_43 : Ref sig .tc := ⟨.hbm, 234, rfl⟩
abbrev main_v186 : Ref sig .tc := ⟨.hbm, 235, rfl⟩
abbrev main_v187 : Ref sig .tc := ⟨.hbm, 236, rfl⟩
abbrev main_c_44 : Ref sig .tc := ⟨.hbm, 237, rfl⟩
abbrev main_v188 : Ref sig .tc := ⟨.hbm, 238, rfl⟩
abbrev main_v189 : Ref sig .tc := ⟨.hbm, 239, rfl⟩
abbrev main_v190 : Ref sig .tc := ⟨.hbm, 240, rfl⟩
abbrev main_c_45 : Ref sig .tc := ⟨.hbm, 241, rfl⟩
abbrev main_v191 : Ref sig .tc := ⟨.hbm, 242, rfl⟩
abbrev main_v192 : Ref sig .tc := ⟨.hbm, 243, rfl⟩
abbrev main_c_46 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_v196 : Ref sig .tc := ⟨.hbm, 248, rfl⟩
abbrev main_v197 : Ref sig .tc := ⟨.hbm, 249, rfl⟩
abbrev main_v198 : Ref sig .tc := ⟨.hbm, 250, rfl⟩
abbrev main_v199 : Ref sig .tc := ⟨.hbm, 251, rfl⟩
abbrev main_v200 : Ref sig .tc := ⟨.hbm, 252, rfl⟩
abbrev main_cst_47 : Ref sig .tc := ⟨.hbm, 253, rfl⟩
abbrev main_v201 : Ref sig .tc := ⟨.hbm, 254, rfl⟩
abbrev main_v202 : Ref sig .tc := ⟨.hbm, 255, rfl⟩
abbrev main_v203 : Ref sig .tc := ⟨.hbm, 256, rfl⟩
abbrev main_v204 : Ref sig .tc := ⟨.hbm, 257, rfl⟩
abbrev main_c_48 : Ref sig .tc := ⟨.hbm, 258, rfl⟩
abbrev main_v205 : Ref sig .tc := ⟨.hbm, 259, rfl⟩
abbrev main_v206 : Ref sig .tc := ⟨.hbm, 260, rfl⟩
abbrev main_c_49 : Ref sig .tc := ⟨.hbm, 261, rfl⟩
abbrev main_v207 : Ref sig .tc := ⟨.hbm, 262, rfl⟩
abbrev main_v208 : Ref sig .tc := ⟨.hbm, 263, rfl⟩
abbrev main_v209 : Ref sig .tc := ⟨.hbm, 264, rfl⟩
abbrev main_c_50 : Ref sig .tc := ⟨.hbm, 265, rfl⟩
abbrev main_v210 : Ref sig .tc := ⟨.hbm, 266, rfl⟩
abbrev main_v211 : Ref sig .tc := ⟨.hbm, 267, rfl⟩
abbrev main_c_51 : Ref sig .tc := ⟨.hbm, 268, rfl⟩
abbrev main_v212 : Ref sig .tc := ⟨.hbm, 269, rfl⟩
abbrev main_v213 : Ref sig .tc := ⟨.hbm, 270, rfl⟩
abbrev main_v214 : Ref sig .tc := ⟨.hbm, 271, rfl⟩
abbrev main_c_52 : Ref sig .tc := ⟨.hbm, 272, rfl⟩
abbrev main_v215 : Ref sig .tc := ⟨.hbm, 273, rfl⟩
abbrev main_v216 : Ref sig .tc := ⟨.hbm, 274, rfl⟩
abbrev main_c_53 : Ref sig .tc := ⟨.hbm, 275, rfl⟩
abbrev main_v217 : Ref sig .tc := ⟨.hbm, 276, rfl⟩
abbrev main_v218 : Ref sig .tc := ⟨.hbm, 277, rfl⟩
abbrev main_v219 : Ref sig .tc := ⟨.hbm, 278, rfl⟩
abbrev main_v220 : Ref sig .tc := ⟨.hbm, 279, rfl⟩
abbrev main_v221 : Ref sig .tc := ⟨.hbm, 280, rfl⟩
abbrev main_v222 : Ref sig .tc := ⟨.hbm, 281, rfl⟩
abbrev main_v223 : Ref sig .tc := ⟨.hbm, 282, rfl⟩
abbrev main_v224 : Ref sig .tc := ⟨.hbm, 283, rfl⟩
abbrev main_v225 : Ref sig .tc := ⟨.hbm, 284, rfl⟩
abbrev main_v226 : Ref sig .tc := ⟨.hbm, 285, rfl⟩
abbrev main_v227 : Ref sig .tc := ⟨.hbm, 286, rfl⟩
abbrev main_cst_54 : Ref sig .tc := ⟨.hbm, 287, rfl⟩
abbrev main_v228 : Ref sig .tc := ⟨.hbm, 288, rfl⟩
abbrev main_v229 : Ref sig .tc := ⟨.hbm, 289, rfl⟩
abbrev main_v230 : Ref sig .tc := ⟨.hbm, 290, rfl⟩
abbrev main_v231 : Ref sig .tc := ⟨.hbm, 291, rfl⟩
abbrev main_v232 : Ref sig .tc := ⟨.hbm, 292, rfl⟩
abbrev main_v233 : Ref sig .tc := ⟨.hbm, 293, rfl⟩
abbrev main_v234 : Ref sig .tc := ⟨.hbm, 294, rfl⟩
abbrev main_cst_55 : Ref sig .tc := ⟨.hbm, 295, rfl⟩
abbrev main_v235 : Ref sig .tc := ⟨.hbm, 296, rfl⟩
abbrev main_v236 : Ref sig .tc := ⟨.hbm, 297, rfl⟩
abbrev main_v237 : Ref sig .tc := ⟨.hbm, 298, rfl⟩
abbrev main_v238 : Ref sig .tc := ⟨.hbm, 299, rfl⟩
abbrev main_v239 : Ref sig .tc := ⟨.hbm, 300, rfl⟩
abbrev main_v240 : Ref sig .tc := ⟨.hbm, 301, rfl⟩
abbrev main_v241 : Ref sig .tc := ⟨.hbm, 302, rfl⟩
abbrev main_v242 : Ref sig .tc := ⟨.hbm, 303, rfl⟩
abbrev main_v243 : Ref sig .tc := ⟨.hbm, 304, rfl⟩
abbrev main_v244 : Ref sig .tc := ⟨.hbm, 305, rfl⟩
abbrev main_call0_cst : Ref sig .tc := ⟨.hbm, 306, rfl⟩
abbrev main_call0_v0 : Ref sig .tc := ⟨.hbm, 307, rfl⟩
abbrev main_v245 : Ref sig .tc := ⟨.hbm, 308, rfl⟩
abbrev main_v246 : Ref sig .tc := ⟨.hbm, 309, rfl⟩
abbrev main_v247 : Ref sig .tc := ⟨.hbm, 310, rfl⟩
abbrev main_v248 : Ref sig .tc := ⟨.hbm, 311, rfl⟩
abbrev main_call1_v0 : Ref sig .tc := ⟨.hbm, 312, rfl⟩
abbrev main_call1_cst : Ref sig .tc := ⟨.hbm, 313, rfl⟩
abbrev main_call1_v1 : Ref sig .tc := ⟨.hbm, 314, rfl⟩
abbrev main_v249 : Ref sig .tc := ⟨.hbm, 315, rfl⟩
abbrev main_v250 : Ref sig .tc := ⟨.hbm, 316, rfl⟩
abbrev main_v251 : Ref sig .tc := ⟨.hbm, 317, rfl⟩
abbrev main_v252 : Ref sig .tc := ⟨.hbm, 318, rfl⟩
abbrev main_call2_v0 : Ref sig .tc := ⟨.hbm, 319, rfl⟩
abbrev main_call2_cst : Ref sig .tc := ⟨.hbm, 320, rfl⟩
abbrev main_call2_v1 : Ref sig .tc := ⟨.hbm, 321, rfl⟩
abbrev main_v253 : Ref sig .tc := ⟨.hbm, 322, rfl⟩
abbrev main_v254 : Ref sig .tc := ⟨.hbm, 323, rfl⟩
abbrev main_v255 : Ref sig .tc := ⟨.hbm, 324, rfl⟩
abbrev main_v256 : Ref sig .tc := ⟨.hbm, 325, rfl⟩
abbrev main_v257 : Ref sig .tc := ⟨.hbm, 326, rfl⟩
abbrev main_v258 : Ref sig .tc := ⟨.hbm, 327, rfl⟩
abbrev main_call3_call0_cst : Ref sig .tc := ⟨.hbm, 328, rfl⟩
abbrev main_call3_call0_v0 : Ref sig .tc := ⟨.hbm, 329, rfl⟩
abbrev main_v259 : Ref sig .tc := ⟨.hbm, 330, rfl⟩
abbrev main_cst_56 : Ref sig .tc := ⟨.hbm, 331, rfl⟩
abbrev main_v260 : Ref sig .tc := ⟨.hbm, 332, rfl⟩
abbrev main_v261 : Ref sig .tc := ⟨.hbm, 333, rfl⟩
abbrev main_v262 : Ref sig .tc := ⟨.hbm, 334, rfl⟩
abbrev main_v263 : Ref sig .tc := ⟨.hbm, 335, rfl⟩
abbrev main_v264 : Ref sig .tc := ⟨.hbm, 336, rfl⟩
abbrev main_v265 : Ref sig .tc := ⟨.hbm, 337, rfl⟩
abbrev main_v266 : Ref sig .tc := ⟨.hbm, 338, rfl⟩
abbrev main_cst_57 : Ref sig .tc := ⟨.hbm, 339, rfl⟩
abbrev main_v267 : Ref sig .tc := ⟨.hbm, 340, rfl⟩
abbrev main_v268 : Ref sig .tc := ⟨.hbm, 341, rfl⟩
abbrev main_v269 : Ref sig .tc := ⟨.hbm, 342, rfl⟩
abbrev main_v270 : Ref sig .tc := ⟨.hbm, 343, rfl⟩
abbrev main_v271 : Ref sig .tc := ⟨.hbm, 344, rfl⟩
abbrev main_v272 : Ref sig .tc := ⟨.hbm, 345, rfl⟩
abbrev main_cst_58 : Ref sig .tc := ⟨.hbm, 346, rfl⟩
abbrev main_v273 : Ref sig .tc := ⟨.hbm, 347, rfl⟩

abbrev nD : Nat := 1
abbrev τ : Topo := Topo.v7x

variable {F : FTy → Type} [FloatOps F]
-- ==== Proof.Render.lean ====
/- The mathematics of the renderer, with no program in it: the weights of the eight corners of a cell, the field they
   interpolate, how far apart the samples lie, and the light that each sample adds. -/
module

public import Idealize.ShloMosaic.PureOps.Ideal
public import Mathlib.Data.EReal.Operations

@[expose] public section

noncomputable section

namespace Cert.Render

open Idealize.ShloMosaic

/-- What a corner weighs along one axis for a sample at coordinate `t`: `t` on the far side, `1 - t` on the near side. -/
def side (far : Prop) [Decidable far] (t : EReal) : EReal := if far then t else 1 - t

/-- What corner `c` weighs for a sample at `p`: the three bits of `c` say on which side it lies along each axis. -/
def weight (p : Fin 3 → EReal) (c : Fin 8) : EReal :=
  side (c.val / 4 % 2 = 1) (p 0) * side (c.val / 2 % 2 = 1) (p 1) * side (c.val % 2 = 1) (p 2)

/-- The vector from sample `n` to the one after it, and from the last sample to the last point `q`. -/
def step (s : Fin 256 → Fin 3 → EReal) (q : Fin 3 → EReal) (n : Fin 256) (a : Fin 3) : EReal :=
  if h : n.val < 255 then s n a - s ⟨n.val + 1, by omega⟩ a else s n a - q a

/-- The length of that vector. -/
def dist (s : Fin 256 → Fin 3 → EReal) (q : Fin 3 → EReal) (n : Fin 256) : EReal :=
  Ideal.sqrt (∑ a, step s q n a * step s q n a)

/-- The field at sample `n`: the corners' values `v`, weighted. -/
def field (w : Fin 256 → Fin 8 → EReal) (v : Fin 8 → EReal) (n : Fin 256) : EReal :=
  ∑ c, w n c * v c

/-- What sample `n` absorbs: the field of the densities `v`, kept nonnegative, over the length `d`. -/
def depth (w : Fin 256 → Fin 8 → EReal) (v : Fin 8 → EReal) (d : Fin 256 → EReal) (n : Fin 256) : EReal :=
  max (field w v n) 0 * d n

/-- What the samples before `n` absorb together, of the depths `t`. -/
def before (t : Fin 256 → EReal) (n : Fin 256) : EReal :=
  ∑ j, (if j < n then 1 else 0) * t j

/-- The light that sample `n` gives: what reaches it, times what it absorbs. -/
def light (t : Fin 256 → EReal) (n : Fin 256) : EReal :=
  Ideal.exp (0 - before t n) * (1 - Ideal.exp (0 - t n))

end Cert.Render

end
-- ==== Proof.KernelBlock.lean ====
/- What the kernel's body computes from the four blocks it reads, at one index of the block it writes. -/
module

public import proofs.«01_k».proof.Proof.Gen.KernelIdeal.Value
public import proofs.«01_k».proof.Proof.Render
public import Idealize.ShloMosaic.Lib.Pointwise
public import Idealize.ShloMosaic.Lib.Pipeline.ValueKit

@[expose] public section

set_option maxRecDepth 16384

noncomputable section

namespace Cert.Render

open Cert.KernelIdeal Cert.KernelIdeal.Gen Idealize.ShloMosaic Idealize.ShloMosaic.TcCoe

/-- The matrix of weights the body makes of the samples: a row for each sample, a column for each corner. -/
def weights (x0 : Vec Ideal S256x3 .f32) : FVec Ideal S256x8 .f32 :=
  k0_pay14 (k0_pay8 (k0_pay3 x0) k0_pay6 2#32 k0_pay7)
    (k0_pay10 (k0_pay4 x0) (k0_pay9 (iota .tc S256x8 32 [1] iota_S256x8_d1_w32)) 2#32 0#32)
    (k0_pay11 (iota .tc S256x8 32 [1] iota_S256x8_d1_w32)) (k0_pay12 (k0_pay5 x0)) (k0_pay13 (k0_pay5 x0))

/-- Entry `(n, c)` of that matrix is the weight of corner `c` for sample `n`. -/
theorem weights_at (x0 : Vec Ideal S256x3 .f32) (n : Fin 256) (c : Fin 8) :
    weights x0 (ix2 n c) = weight (fun a => x0 (ix2 n a)) c := by
  unfold weight
  pointwise [weights, k0_pay14, k0_pay8, k0_pay3, k0_pay6, k0_pay7, k0_pay10, k0_pay4, k0_pay9, k0_pay11, k0_pay12,
    k0_pay5, k0_pay13]
  fin_vals c with hk
  all_goals (simp only [hk]; rfl)

/-- The column of lengths the body makes of the samples and the last point. -/
theorem lengths_at (x0 : Vec Ideal S256x3 .f32) (x1 : Vec Ideal S1x3 .f32) (n : Fin 256) :
    k0_pay2 x0 x1 (ix2 n 0) = dist (fun n a => x0 (ix2 n a)) (fun a => x1 (ix2 0 a)) n := by
  have e : ∀ a : Fin 3, (if h : n.val < 255 then x0 (ix2 n a) - x0 (ix2 ⟨1 + n.val, by omega⟩ a)
      else x0 (ix2 ⟨255 + (n.val - 255), by omega⟩ a) - x1 (ix2 ⟨n.val - 255, by omega⟩ a))
      = step (fun n a => x0 (ix2 n a)) (fun a => x1 (ix2 0 a)) n a := by
    intro a
    unfold step
    split
    · congr 3; apply Fin.ext; show 1 + n.val = n.val + 1; omega
    · congr 3 <;> apply Fin.ext
      · show 255 + (n.val - 255) = n.val; omega
      · show n.val - 255 = 0; omega
  unfold dist
  pointwise [k0_pay2]
  simp only [e]

/-- The eight corners of the fetched cell: corner `c` is the slab that the bits of `c` name. -/
def slab (x3 : Vec Ideal S2x2x2x31x768 .f32) (c : Fin 8) (k : Fin 31) (l : Fin 768) : EReal :=
  x3 (ix5 (⟨c.val / 4, by omega⟩ : Fin 2) (⟨c.val / 2 % 2, by omega⟩ : Fin 2) (⟨c.val % 2, by omega⟩ : Fin 2) k l)

/-- The product of the weights, transposed, with the samples' light: for corner `c`, the light of the samples by their
    weights there. `v` are the corners, `D` the lengths, `T` the matrix by which the depths before a sample are added. -/
theorem shares_at (D : FVec Ideal S256x1 .f32) (W : FVec Ideal S256x8 .f32) (v : Fin 8 → FVec Ideal S31x768 .f32)
    (u : Vec Ideal S1x1x1x31x768 .f32) (hu : k0_pay22 u = v 7) (T : FVec Ideal S256x256 .bf16)
    (hT : ∀ n j : Fin 256, T (ix2 n j) = if j < n then (1 : EReal) else 0) (c : Fin 8) (l : Fin 768) :
    k0_pay23 D W (v 0) (v 1) (v 2) (v 3) (v 4) (v 5) (v 6) u T (ix2 c l)
      = ∑ n, W (ix2 n c) * light (depth (fun n c => W (ix2 n c)) (fun c => v c (ix2 30 l)) (fun n => D (ix2 n 0))) n := by
  unfold light before depth field
  pointwise [k0_pay23, hT]
  simp only [Fin.sum_univ_eight, hu]
  rfl

/-- Corner `c` of the fetched cell as a matrix: rows of features, columns of channels. -/
def corner (x3 : Vec Ideal S2x2x2x31x768 .f32) (c : Fin 8) : FVec Ideal S31x768 .f32 :=
  fun j => slab x3 c (j 0) (j 1)

variable (x3 : Vec Ideal S2x2x2x31x768 .f32)

/-- The body's load number 0 of the cell is corner 0. -/
theorem corner_0 : k0_pay15 (View.ld x3 (Rect.unit ![0, 0, 0, 0, 0] ![1, 1, 1, 31, 768]
    inb_S2x2x2x31x768_S1x1x1x31x768_0_0_0_0_0)) = corner x3 0 := by
  funext j
  idx_vars j
  pointwise [k0_pay15]
  rfl

/-- The body's load number 1 of the cell is corner 1. -/
theorem corner_1 : k0_pay16 (View.ld x3 (Rect.unit ![0, 0, 1, 0, 0] ![1, 1, 1, 31, 768]
    inb_S2x2x2x31x768_S1x1x1x31x768_0_0_1_0_0)) = corner x3 1 := by
  funext j
  idx_vars j
  pointwise [k0_pay16]
  rfl

/-- The body's load number 2 of the cell is corner 2. -/
theorem corner_2 : k0_pay17 (View.ld x3 (Rect.unit ![0, 1, 0, 0, 0] ![1, 1, 1, 31, 768]
    inb_S2x2x2x31x768_S1x1x1x31x768_0_1_0_0_0)) = corner x3 2 := by
  funext j
  idx_vars j
  pointwise [k0_pay17]
  rfl

/-- The body's load number 3 of the cell is corner 3. -/
theorem corner_3 : k0_pay18 (View.ld x3 (Rect.unit ![0, 1, 1, 0, 0] ![1, 1, 1, 31, 768]
    inb_S2x2x2x31x768_S1x1x1x31x768_0_1_1_0_0)) = corner x3 3 := by
  funext j
  idx_vars j
  pointwise [k0_pay18]
  rfl

/-- The body's load number 4 of the cell is corner 4. -/
theorem corner_4 : k0_pay19 (View.ld x3 (Rect.unit ![1, 0, 0, 0, 0] ![1, 1, 1, 31, 768]
    inb_S2x2x2x31x768_S1x1x1x31x768_1_0_0_0_0)) = corner x3 4 := by
  funext j
  idx_vars j
  pointwise [k0_pay19]
  rfl

/-- The body's load number 5 of the cell is corner 5. -/
theorem corner_5 : k0_pay20 (View.ld x3 (Rect.unit ![1, 0, 1, 0, 0] ![1, 1, 1, 31, 768]
    inb_S2x2x2x31x768_S1x1x1x31x768_1_0_1_0_0)) = corner x3 5 := by
  funext j
  idx_vars j
  pointwise [k0_pay20]
  rfl

/-- The body's load number 6 of the cell is corner 6. -/
theorem corner_6 : k0_pay21 (View.ld x3 (Rect.unit ![1, 1, 0, 0, 0] ![1, 1, 1, 31, 768]
    inb_S2x2x2x31x768_S1x1x1x31x768_1_1_0_0_0)) = corner x3 6 := by
  funext j
  idx_vars j
  pointwise [k0_pay21]
  rfl

/-- The body's load number 7 of the cell is corner 7. -/
theorem corner_7 : k0_pay22 (View.ld x3 (Rect.unit ![1, 1, 1, 0, 0] ![1, 1, 1, 31, 768]
    inb_S2x2x2x31x768_S1x1x1x31x768_1_1_1_0_0)) = corner x3 7 := by
  funext j
  idx_vars j
  pointwise [k0_pay22]
  rfl

/-- What the body leaves at `(k, l)` of its output block: the corners' features, each times its share of the light. -/
theorem block_at (c : Dev nD) (i : grid0.Coords) (a1 : Memref sig .tc .vmem S256x3 .f32) (h1 : a1.IsWhole)
    (a2 : Memref sig .tc .vmem S1x3 .f32) (h2 : a2.IsWhole) (a3 : Memref sig .tc .vmem S256x256 .bf16) (h3 : a3.IsWhole)
    (a4 : Memref sig .tc .vmem S2x2x2x31x768 .f32) (h4 : a4.IsWhole) (a5 : Memref sig .tc .vmem S30x768 .f32)
    (h5 : a5.IsWhole) (x0 : Vec Ideal S256x3 .f32) (x1 : Vec Ideal S1x3 .f32) (x2 : Vec Ideal S256x256 .bf16)
    (hT : ∀ n j : Fin 256, x2 (ix2 n j) = if j < n then (1 : EReal) else 0) (k : Fin 30) (l : Fin 768) :
    out0_A_4 c i a1 h1 a2 h2 a3 h3 a4 h4 a5 h5 x0 x1 x2 x3 (ix2 k l)
      = ∑ b : Fin 8, slab x3 b (k.castLE (by omega)) l * ∑ n, weight (fun a => x0 (ix2 n a)) b
          * light (depth (fun n => weight fun a => x0 (ix2 n a)) (fun b => slab x3 b 30 l)
              (dist (fun n a => x0 (ix2 n a)) (fun a => x1 (ix2 0 a)))) n := by
  have hM : ∀ b : Fin 8, k0_pay23 (k0_pay2 x0 x1) (weights x0) (corner x3 0) (corner x3 1) (corner x3 2) (corner x3 3)
      (corner x3 4) (corner x3 5) (corner x3 6) (View.ld x3 (Rect.unit ![1, 1, 1, 0, 0] ![1, 1, 1, 31, 768]
      inb_S2x2x2x31x768_S1x1x1x31x768_1_1_1_0_0)) x2 (ix2 b l)
      = ∑ n, weight (fun a => x0 (ix2 n a)) b
          * light (depth (fun n => weight fun a => x0 (ix2 n a)) (fun b => slab x3 b 30 l)
              (dist (fun n a => x0 (ix2 n a)) (fun a => x1 (ix2 0 a)))) n := by
    intro b
    rw [shares_at _ _ (corner x3) _ (corner_7 x3) _ hT]
    simp only [weights_at, lengths_at]
    rfl
  frame_out
  have hW : k0_pay14 (k0_pay8 (k0_pay3 x0) k0_pay6 2#32 k0_pay7)
      (k0_pay10 (k0_pay4 x0) (k0_pay9 (iota .tc S256x8 32 [1] iota_S256x8_d1_w32)) 2#32 0#32)
      (k0_pay11 (iota .tc S256x8 32 [1] iota_S256x8_d1_w32)) (k0_pay12 (k0_pay5 x0)) (k0_pay13 (k0_pay5 x0))
      = weights x0 := rfl
  simp only [hW, corner_0, corner_1, corner_2, corner_3, corner_4, corner_5, corner_6, corner_7]
  unfold k0_pay24 k0_pay25
  generalize k0_pay23 (k0_pay2 x0 x1) (weights x0) (corner x3 0) (corner x3 1) (corner x3 2) (corner x3 3)
      (corner x3 4) (corner x3 5) (corner x3 6) (View.ld x3 (Rect.unit ![1, 1, 1, 0, 0] ![1, 1, 1, 31, 768]
      inb_S2x2x2x31x768_S1x1x1x31x768_1_1_1_0_0)) x2 = M at hM ⊢
  simp only [Fin.sum_univ_eight, ← hM]
  pointwise [k0_pay1]
  rfl

end Cert.Render

end
-- ==== Proof.KernelArray.lean ====
/- What the kernel's launch leaves in its result array, as a function of the three arguments. -/
module

public import proofs.«01_k».proof.Proof.KernelBlock

@[expose] public section

set_option maxRecDepth 16384

noncomputable section

namespace Cert.Render

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-! ## What the launch finds in the two arrays that the host prepares -/

/-- The last point, as one row. -/
theorem entry_point (c : Dev nD) : V m c main_v2
    = (broadcastInDim S1x3 ![1] bcast_S3_S1x3_1 (m ((c : Thread nD τ).loc main_arg1)) : FVec Ideal S1x3 .f32) := by
  unfold V
  simp only [hostOps0, hostOps0_1, hostOps0_2, List.flatten_cons, List.flatten_nil, List.append_nil, List.cons_append,
    List.nil_append, StableHlo.TRef.binary, StableHlo.TRef.nullary, StableHlo.TRef.unary, StableHlo.TRef.ternary,
    StableHlo.TRef.toBuf, StableHlo.TRef.ofBuf, cast_eq]
  after_results_simp
  all_goals rfl

/-- The triangle as the host spells it: one where row number less one is at least the column number, else zero. -/
def triangle : FVec Ideal S256x256 .bf16 :=
  select (cmpi .sge (addi (iotaInDim S256x256 32 0) (broadcastInDim S256x256 ![] bcast_S_S256x256 (constantI S_ 32 4294967295#32)))
      (iotaInDim S256x256 32 1)) (broadcastInDim S256x256 ![] bcast_S_S256x256 (constant S_ .bf16 0x3F80#16))
    (broadcastInDim S256x256 ![] bcast_S_S256x256 (constant S_ .bf16 0x0000#16))

/-- The host leaves that triangle. -/
theorem entry_triangle (c : Dev nD) : V m c main_v1 = triangle := by
  unfold V triangle
  simp only [hostOps0, hostOps0_1, hostOps0_2, List.flatten_cons, List.flatten_nil, List.append_nil, List.cons_append,
    List.nil_append, StableHlo.TRef.binary, StableHlo.TRef.nullary, StableHlo.TRef.unary, StableHlo.TRef.ternary,
    StableHlo.TRef.toBuf, StableHlo.TRef.ofBuf, cast_eq]
  after_results_simp
  all_goals rfl

/-- The signed comparison, as a comparison of integers. -/
theorem sge_toInt (a b : BitVec 32) : IntOp.cmpi .sge a b = BitVec.ofBool (decide (b.toInt ≤ a.toInt)) := rfl

/-- A row number less one, as a signed word. -/
theorem pred_toInt (n : Fin 256) : (IntOp.addi (BitVec.ofNat 32 n.val) 4294967295#32).toInt = (n.val : ℤ) - 1 := by
  have hn := n.isLt
  have h : (IntOp.addi (BitVec.ofNat 32 n.val) 4294967295#32) = BitVec.ofInt 32 ((n.val : ℤ) - 1) := by
    have : (4294967295#32) = BitVec.ofInt 32 (-1) := by decide
    rw [this, ← BitVec.ofInt_natCast, sub_eq_add_neg, BitVec.ofInt_add]
    rfl
  rw [h, BitVec.toInt_ofInt]
  exact Int.bmod_eq_of_le (by omega) (by omega)

/-- A column number, as a signed word. -/
theorem nat_toInt (j : Fin 256) : (BitVec.ofNat 32 j.val).toInt = (j.val : ℤ) := by
  have hj := j.isLt
  rw [← BitVec.ofInt_natCast, BitVec.toInt_ofInt]
  exact Int.bmod_eq_of_le (by omega) (by omega)

/-- A row number less one, compared with a column number as signed words, is the strict order of the two numbers. -/
theorem pred_ge (n j : Fin 256) :
    IntOp.cmpi .sge (IntOp.addi (BitVec.ofNat 32 n.val) 4294967295#32) (BitVec.ofNat 32 j.val) = BitVec.ofBool (decide (j < n)) := by
  rw [sge_toInt, pred_toInt, nat_toInt]
  refine congrArg BitVec.ofBool (decide_eq_decide.mpr ?_)
  rw [Fin.lt_def]
  omega

/-- The triangle at row `n` and column `j`. -/
theorem triangle_at (n j : Fin 256) : triangle (ix2 n j) = if j < n then (1 : EReal) else 0 := by
  unfold triangle
  pointwise
  rw [pred_ge]
  by_cases h : j < n <;> simp [h, Scalar.select]

/-! ## The blocks that the one grid point works on -/

/-- Which block each window takes: the first of its array, and of the grid the block of positions 4 and 5. -/
theorem idx_0 : ∀ t : Fin cfg0.N, win0_0.index t = ![0, 0] := (by decide +kernel : ∀ t : Fin grid0.N, win0_0.index t = ![0, 0])
theorem idx_1 : ∀ t : Fin cfg0.N, win0_1.index t = ![0, 0] := (by decide +kernel : ∀ t : Fin grid0.N, win0_1.index t = ![0, 0])
theorem idx_2 : ∀ t : Fin cfg0.N, win0_2.index t = ![0, 0] := (by decide +kernel : ∀ t : Fin grid0.N, win0_2.index t = ![0, 0])
theorem idx_3 : ∀ t : Fin cfg0.N, win0_3.index t = ![2, 2, 2, 0, 0] := (by decide +kernel : ∀ t : Fin grid0.N, win0_3.index t = ![2, 2, 2, 0, 0])
theorem idx_4 : ∀ t : Fin cfg0.N, win0_4.index t = ![0, 0] := (by decide +kernel : ∀ t : Fin grid0.N, win0_4.index t = ![0, 0])

/-- The samples' block is the samples. -/
theorem samples_block (c : Dev nD) (t : Fin cfg0.N) (n : Fin 256) (a : Fin 3) :
    iblk m c 0 t (ix2 n a) = m ((c : Thread nD τ).loc main_arg0) (ix2 n a) := by
  blk_ext [iblk, V, idx_0 t]

/-- A pair of zeros is zero at each place. -/
theorem zeros (b : Fin 2) : (![0, 0] : Fin 2 → ℕ) b = 0 := by
  revert b; decide

/-- The last point's block is the last point. -/
theorem point_block (c : Dev nD) (t : Fin cfg0.N) (a : Fin 3) :
    iblk m c 1 t (ix2 (0 : Fin 1) a) = m ((c : Thread nD τ).loc main_arg1) (ix1 a) := by
  have h : iblk m c 1 t (ix2 (0 : Fin 1) a) = V m c main_v2 (ix2 (0 : Fin 1) a) := by
    show V m c main_v2 (((cfg0.win 1).blk t).view.emb (ix2 (0 : Fin 1) a)) = _
    refine congrArg (V m c main_v2) (funext fun b => Fin.ext ?_)
    blk_simp [idx_1 t]
    exact (congrArg (· * win0_1.size b + (ix2 (0 : Fin 1) a b).val) (zeros b)).trans (by simp)
  rw [h, entry_point]
  pointwise

/-- An element of the triangle's block is the same element of the array, whatever the arrays hold. -/
theorem triangle_read (c : Dev nD) (W : (b : Ref sig .tc) → Buf (Elt Ideal) ((c : Thread nD τ).loc b)) (t : Fin cfg0.N) (n j : Fin 256) :
    ((cfg0.win 2).blk t).view.read (Elt Ideal) (W (Pipeline.arrRef spec0 2)) (ix2 n j) = W main_v1 (ix2 n j) := by
  show W main_v1 (((cfg0.win 2).blk t).view.emb (ix2 n j)) = _
  refine congrArg (W main_v1) (funext fun b => Fin.ext ?_)
  blk_simp [idx_2 t]
  exact (congrArg (· * win0_2.size b + (ix2 n j b).val) (zeros b)).trans (by simp)

/-- The triangle's block is the triangle. -/
theorem triangle_block (c : Dev nD) (t : Fin cfg0.N) (n j : Fin 256) :
    iblk m c 2 t (ix2 n j) = if j < n then (1 : EReal) else 0 :=
  (triangle_read c (V m c) t n j).trans ((congrFun (entry_triangle m c) (ix2 n j)).trans (triangle_at n j))

/-- The embeddings' block is the eight corners at 4 and 5 along each axis. -/
theorem cell_block (c : Dev nD) (t : Fin cfg0.N) (x y z : Fin 2) (k : Fin 31) (l : Fin 768) :
    X0_3 m c t (ix5 x y z k l) = m ((c : Thread nD τ).loc main_arg2)
      (ix5 (⟨4 + x.val, by omega⟩ : Fin 9) (⟨4 + y.val, by omega⟩ : Fin 9) (⟨4 + z.val, by omega⟩ : Fin 9) k l) := by
  unfold X0_3 Pipeline.Window.fill
  rw [dif_pos (moved0_3 t _)]
  unfold iblk
  blk_simp [idx_3 t]
  refine (congrFun (V_main_arg2 m c) _).trans (congrArg (m ((c : Thread nD τ).loc main_arg2)) (funext fun b => Fin.ext ?_))
  blk_simp [idx_3 t]
  revert b
  show ∀ b : Fin 5, ![2, 2, 2, 0, 0] b * win0_3.size b + (ix5 x y z k l b).val
    = (ix5 (⟨4 + x.val, by omega⟩ : Fin 9) (⟨4 + y.val, by omega⟩ : Fin 9) (⟨4 + z.val, by omega⟩ : Fin 9) k l b).val
  intro b
  fin_cases b
  · show 2 * 2 + x.val = 4 + x.val; omega
  · show 2 * 2 + y.val = 4 + y.val; omega
  · show 2 * 2 + z.val = 4 + z.val; omega
  · show 0 * 31 + k.val = k.val; omega
  · show 0 * 768 + l.val = l.val; omega

/-- What the kernel's result holds at feature `k` and lane `l`, of the samples `s`, the last point `q` and the table `e`. -/
def kernelResult (s : S256x3.Idx → EReal) (q : S3.Idx → EReal) (e : S9x9x9x31x768.Idx → EReal) (k : Fin 30) (l : Fin 768) : EReal :=
  ∑ b : Fin 8, e (ix5 (⟨4 + b.val / 4, by omega⟩ : Fin 9) (⟨4 + b.val / 2 % 2, by omega⟩ : Fin 9) (⟨4 + b.val % 2, by omega⟩ : Fin 9)
        (⟨k.val, by omega⟩ : Fin 31) l)
    * ∑ n, weight (fun a => s (ix2 n a)) b
      * light (depth (fun n => weight fun a => s (ix2 n a))
          (fun b => e (ix5 (⟨4 + b.val / 4, by omega⟩ : Fin 9) (⟨4 + b.val / 2 % 2, by omega⟩ : Fin 9) (⟨4 + b.val % 2, by omega⟩ : Fin 9) 30 l))
          (dist (fun n a => s (ix2 n a)) (fun a => q (ix1 a)))) n

/-- The array after the launch. -/
theorem array_at (c : Dev nD) (k : Fin 30) (l : Fin 768) :
    (dats m 0 c).arrAt 4 cfg0.N (ix2 k l)
      = kernelResult (m ((c : Thread nD τ).loc main_arg0)) (m ((c : Thread nD τ).loc main_arg1)) (m ((c : Thread nD τ).loc main_arg2)) k l := by
  have h : (dats m 0 c).arrAt 4 cfg0.N = fun j => kernelResult (m ((c : Thread nD τ).loc main_arg0)) (m ((c : Thread nD τ).loc main_arg1))
      (m ((c : Thread nD τ).loc main_arg2)) (j 0) (j 1) := by
    refine (dats m 0 c).arrAt_eq_of_covers 4 _ (by decide +kernel) fun t hf y => ?_
    blk_simp
    rw [after0_4]
    idx_vars y
    have e0 : ((View.whole main_v3).slice (win0_4.rect t)).emb (ix2 y0 y1) 0 = y0 := Fin.ext (by blk_simp [idx_4 t])
    have e1 : ((View.whole main_v3).slice (win0_4.rect t)).emb (ix2 y0 y1) 1 = y1 := Fin.ext (by blk_simp [idx_4 t])
    rw [e0, e1]
    refine (block_at (X0_3 m c t) c (grid0.coords t) (ms0_0 t) (hs0_0 t) (ms0_1 t) (hs0_1 t) (ms0_2 t) (hs0_2 t) (ms0_3 t) (hs0_3 t)
      (ms0_4 t) (hs0_4 t) (iblk m c 0 t) (iblk m c 1 t) (iblk m c 2 t) (triangle_block m c t) y0 y1).trans ?_
    simp only [slab, samples_block, point_block, cell_block]
    rfl
  rw [h]
  rfl

end Cert.Render

end
-- ==== Proof.RefTable.lean ====
/- How the reference reads the grid: what its gather holds at an index, when its index words are grid positions. -/
module

public import proofs.«01_k».proof.Proof.Gen.ReferenceIdeal.Run
public import proofs.«01_k».proof.Proof.Render
public import Idealize.ShloMosaic.Lib.Pointwise
public import Idealize.ShloMosaic.Lib.Tactic.CleanTypes

@[expose] public section

set_option maxRecDepth 16384

noncomputable section

namespace Cert.Render.Ref

open Cert.ReferenceIdeal Cert.ReferenceIdeal.Value Cert.ReferenceIdeal.Gen Idealize.ShloMosaic

/-- The gather's dimension numbers: three index columns choose a slab, the slab's rows and channels are kept. -/
abbrev tableDims : GatherDims S9x9x9x31x768 S256x3 S256x31x768 :=
  gather_S9x9x9x31x768_S256x3_S256x31x768_12_012_n_n_012_1_11131768

/-- Result index `(n, k, l)` reads component `a` of its start index at `(n, a)`. -/
theorem siIdx_at (n : Fin 256) (k : Fin 31) (l : Fin 768) (a : Fin 3) :
    tableDims.siIdx (ix3 n k l) a = ix2 n a := by
  funext b
  apply Fin.ext
  match b with
  | ⟨0, _⟩ => rfl
  | ⟨1, _⟩ => rfl

/-- An index word that holds a grid position, read signed and clamped to the grid, is that position. -/
theorem clamp_pos (i : Fin 9) : min (BitVec.ofNat 32 i.val).toInt.toNat (9 - 1) = i.val := by
  revert i; decide

/-- Where the index words of row `n` are the grid positions `a`, `b`, `c`, the gather holds at `(n, k, l)` what the
    table holds at `(a, b, c, k, l)`. -/
theorem gather_at (E : FVec Ideal S9x9x9x31x768 .f32) (idx : IVec S256x3 32) (n : Fin 256) (k : Fin 31) (l : Fin 768)
    (a b c : Fin 9) (ha : idx (ix2 n 0) = BitVec.ofNat 32 a.val) (hb : idx (ix2 n 1) = BitVec.ofNat 32 b.val)
    (hc : idx (ix2 n 2) = BitVec.ofNat 32 c.val) :
    Host.gather tableDims E idx (ix3 n k l) = E (ix5 a b c k l) := by
  unfold Host.gather
  refine congrArg E (funext fun x => Fin.ext ?_)
  show tableDims.start (ix3 n k l) idx x + tableDims.batchCoord (ix3 n k l) x + tableDims.offCoord (ix3 n k l) x = _
  rw [tableDims.batchCoord_eq_zero _ _ List.not_mem_nil, Nat.add_zero]
  have off : ∀ x : Fin 5, x.val < 3 → tableDims.offCoord (ix3 n k l) x = 0 := fun x hx =>
    tableDims.offCoord_eq_zero _ _ (by revert x; decide)
  have named : ∀ x : Fin 5, x.val < 3 → x ∈ tableDims.startIndexMap := by
    show ∀ x : Fin 5, x.val < 3 → x ∈ ([0, 1, 2] : List (Fin 5))
    decide
  match x with
  | ⟨0, h⟩ =>
    rw [off ⟨0, h⟩ (by decide : 0 < 3), Nat.add_zero]
    unfold GatherDims.start
    rw [dif_pos (named ⟨0, h⟩ (by decide : 0 < 3))]
    exact (congrArg (fun w : BitVec 32 => min w.toInt.toNat 8) ((congrArg idx (siIdx_at n k l 0)).trans ha)).trans
      (clamp_pos a)
  | ⟨1, h⟩ =>
    rw [off ⟨1, h⟩ (by decide : 1 < 3), Nat.add_zero]
    unfold GatherDims.start
    rw [dif_pos (named ⟨1, h⟩ (by decide : 1 < 3))]
    exact (congrArg (fun w : BitVec 32 => min w.toInt.toNat 8) ((congrArg idx (siIdx_at n k l 1)).trans hb)).trans
      (clamp_pos b)
  | ⟨2, h⟩ =>
    rw [off ⟨2, h⟩ (by decide : 2 < 3), Nat.add_zero]
    unfold GatherDims.start
    rw [dif_pos (named ⟨2, h⟩ (by decide : 2 < 3))]
    exact (congrArg (fun w : BitVec 32 => min w.toInt.toNat 8) ((congrArg idx (siIdx_at n k l 2)).trans hc)).trans
      (clamp_pos c)
  | ⟨3, h⟩ => exact Nat.zero_add _
  | ⟨4, h⟩ => exact Nat.zero_add _

/-- A vector of index words as the reference makes a column of it: a negative word is moved up by the grid's extent. -/
abbrev column (v : IVec S256 32) : IVec S256x1 32 :=
  broadcastInDim S256x1 ![0] bcast_S256_S256x1_0 (select (cmpi .slt v (broadcastInDim S256 ![] bcast_S_S256 (constantI S_ 32 0#32)))
    (addi v (broadcastInDim S256 ![] bcast_S_S256 (constantI S_ 32 9#32))) v)

/-- The table at three vectors of index words. -/
abbrev tableAt (E : FVec Ideal S9x9x9x31x768 .f32) (u v w : IVec S256 32) : FVec Ideal S256x31x768 .f32 :=
  Host.gather tableDims E (concatenate S256x3 1 [⟨S256x1, column u⟩, ⟨S256x1, column v⟩, ⟨S256x1, column w⟩]
    concatenates_S256x1_S256x1_S256x1_S256x3_d1)

/-- A word that holds a grid position is not negative, so it stays as it is. -/
theorem wrap_pos (a : Fin 9) : Scalar.select (IntOp.cmpi .slt (BitVec.ofNat 32 a.val) 0#32)
    (IntOp.addi (BitVec.ofNat 32 a.val) 9#32) (BitVec.ofNat 32 a.val) = BitVec.ofNat 32 a.val := by
  revert a; decide

/-- The table at index vectors that hold grid positions `a`, `b`, `c` at `n`. -/
theorem tableAt_at (E : FVec Ideal S9x9x9x31x768 .f32) (u v w : IVec S256 32) (n : Fin 256) (k : Fin 31) (l : Fin 768)
    (a b c : Fin 9) (ha : u (ix1 n) = BitVec.ofNat 32 a.val) (hb : v (ix1 n) = BitVec.ofNat 32 b.val)
    (hc : w (ix1 n) = BitVec.ofNat 32 c.val) :
    tableAt E u v w (ix3 n k l) = E (ix5 a b c k l) := by
  refine gather_at E _ n k l a b c ?_ ?_ ?_
  · pointwise
    rw [ha]
    exact wrap_pos a
  · pointwise
    rw [hb]
    exact wrap_pos b
  · pointwise
    rw [hc]
    exact wrap_pos c

end Cert.Render.Ref

end
-- ==== Proof.Corners.lean ====
/- Interpolation on one axis and in one cell: a sample in `[0, 1]` lies in the cell whose corners are the grid positions
   4 and 5, and what is read at the floor and at the ceiling of its grid position, weighted by its fraction, is what is
   read at the two ends of the cell, weighted by its coordinate. -/
module

public import proofs.«01_k».proof.Proof.Render
public import Idealize.ShloMosaic.PureOps.Ideal
public import Mathlib.Data.EReal.Operations

@[expose] public section

noncomputable section

namespace Cert.Render

open Idealize.ShloMosaic

/-- The floor of the grid position of the coordinate `x`: 5 at the far end, else 4. -/
def low (x : ℝ) : Fin 9 := if x = 1 then 5 else 4

/-- The ceiling of the grid position of the coordinate `x`: 4 at the near end, else 5. -/
def high (x : ℝ) : Fin 9 := if x = 0 then 4 else 5

/-- The floor of a number in `[0, 1)` is zero. -/
theorem floor_of_lt {x : ℝ} (h0 : 0 ≤ x) (h1 : x < 1) : ⌊x⌋ = 0 :=
  Int.floor_eq_zero_iff.mpr ⟨h0, h1⟩

/-- The floor of the grid position is `low`. -/
theorem low_floor {x : ℝ} (h0 : 0 ≤ x) (h1 : x ≤ 1) : ⌊x + 4⌋ = ((low x).val : ℤ) := by
  rw [Int.floor_add_ofNat]
  unfold low
  split_ifs with h
  · rw [h, Int.floor_one]; rfl
  · rw [floor_of_lt h0 (lt_of_le_of_ne h1 h)]; rfl

/-- The ceiling of the grid position is `high`. -/
theorem high_ceil {x : ℝ} (h0 : 0 ≤ x) (h1 : x ≤ 1) : ⌈x + 4⌉ = ((high x).val : ℤ) := by
  rw [Int.ceil_add_ofNat]
  unfold high
  split_ifs with h
  · rw [h, Int.ceil_zero]; rfl
  · rw [Int.ceil_eq_iff (z := 1) |>.mpr ⟨by simpa using lt_of_le_of_ne h0 (Ne.symm h), by simpa using h1⟩]; rfl

/-- What is read at the floor and at the ceiling, weighted by the fraction, is what is read at the cell's two ends,
    weighted by the coordinate: at an end the fraction is zero and both readings are of that end. -/
theorem lerp_ends (f : Fin 9 → EReal) {x : ℝ} (h0 : 0 ≤ x) (h1 : x ≤ 1) :
    f (low x) * (1 - ((x : EReal) - ((⌊x⌋ : ℝ) : EReal))) + f (high x) * ((x : EReal) - ((⌊x⌋ : ℝ) : EReal))
      = f 4 * (1 - (x : EReal)) + f 5 * (x : EReal) := by
  have e1 : (1 : EReal) - 0 = 1 := sub_zero 1
  have e2 : (1 : EReal) - 1 = 0 := by rw [← EReal.coe_one, ← EReal.coe_sub]; simp
  rcases eq_or_ne x 1 with h | h
  · subst h
    simp [low, high, e1, e2]
  rw [floor_of_lt h0 (lt_of_le_of_ne h1 h)]
  rcases eq_or_ne x 0 with h' | h'
  · subst h'
    simp [low, high, e1]
  · simp [low, high, h, h']

/-- A nonnegative real is nonnegative as an extended real. -/
theorem coe_nonneg {x : ℝ} (h0 : 0 ≤ x) : (0 : EReal) ≤ (x : EReal) := EReal.coe_nonneg.mpr h0

/-- One less a real, as an extended real. -/
theorem one_sub_coe (x : ℝ) : (1 : EReal) - (x : EReal) = ((1 - x : ℝ) : EReal) := by
  rw [EReal.coe_sub, EReal.coe_one]

/-- The near weight is nonnegative. -/
theorem one_sub_nonneg {x : ℝ} (h1 : x ≤ 1) : (0 : EReal) ≤ 1 - (x : EReal) := by
  rw [one_sub_coe]; exact coe_nonneg (by linarith)

/-- The near weight is finite. -/
theorem one_sub_ne_top (x : ℝ) : (1 : EReal) - (x : EReal) ≠ ⊤ := by
  rw [one_sub_coe]; exact EReal.coe_ne_top _

/-- A nonnegative number other than infinity goes through a sum on its left. -/
theorem add_mul_of {c : EReal} (h0 : 0 ≤ c) (h1 : c ≠ ⊤) (a b : EReal) : (a + b) * c = a * c + b * c := by
  rw [mul_comm, EReal.left_distrib_of_nonneg_of_ne_top h0 h1, mul_comm c a, mul_comm c b]

/-- Interpolation along the first axis, then the second, then the third is the field of the eight corners. -/
theorem nested_eq_field (f : Fin 9 → Fin 9 → Fin 9 → EReal) (p : Fin 3 → ℝ) (h0 : ∀ a, 0 ≤ p a) (h1 : ∀ a, p a ≤ 1) :
    ((f 4 4 4 * (1 - (p 0 : EReal)) + f 5 4 4 * (p 0 : EReal)) * (1 - (p 1 : EReal))
        + (f 4 5 4 * (1 - (p 0 : EReal)) + f 5 5 4 * (p 0 : EReal)) * (p 1 : EReal)) * (1 - (p 2 : EReal))
      + ((f 4 4 5 * (1 - (p 0 : EReal)) + f 5 4 5 * (p 0 : EReal)) * (1 - (p 1 : EReal))
        + (f 4 5 5 * (1 - (p 0 : EReal)) + f 5 5 5 * (p 0 : EReal)) * (p 1 : EReal)) * (p 2 : EReal)
    = ∑ c : Fin 8, weight (fun a => (p a : EReal)) c
        * f (⟨4 + c.val / 4, by omega⟩ : Fin 9) (⟨4 + c.val / 2 % 2, by omega⟩ : Fin 9) (⟨4 + c.val % 2, by omega⟩ : Fin 9) := by
  have d1 := add_mul_of (one_sub_nonneg (h1 1)) (one_sub_ne_top (p 1))
  have d1' := add_mul_of (coe_nonneg (h0 1)) (EReal.coe_ne_top (p 1))
  have d2 := add_mul_of (one_sub_nonneg (h1 2)) (one_sub_ne_top (p 2))
  have d2' := add_mul_of (coe_nonneg (h0 2)) (EReal.coe_ne_top (p 2))
  simp only [d1, d1', d2, d2', Fin.sum_univ_eight]
  have w0 : weight (fun a => (p a : EReal)) 0 = (1 - (p 0 : EReal)) * (1 - (p 1 : EReal)) * (1 - (p 2 : EReal)) := by simp [weight, side]
  have w1 : weight (fun a => (p a : EReal)) 1 = (1 - (p 0 : EReal)) * (1 - (p 1 : EReal)) * (p 2 : EReal) := by simp [weight, side]
  have w2 : weight (fun a => (p a : EReal)) 2 = (1 - (p 0 : EReal)) * (p 1 : EReal) * (1 - (p 2 : EReal)) := by simp [weight, side]
  have w3 : weight (fun a => (p a : EReal)) 3 = (1 - (p 0 : EReal)) * (p 1 : EReal) * (p 2 : EReal) := by simp [weight, side]
  have w4 : weight (fun a => (p a : EReal)) 4 = (p 0 : EReal) * (1 - (p 1 : EReal)) * (1 - (p 2 : EReal)) := by simp [weight, side]
  have w5 : weight (fun a => (p a : EReal)) 5 = (p 0 : EReal) * (1 - (p 1 : EReal)) * (p 2 : EReal) := by simp [weight, side]
  have w6 : weight (fun a => (p a : EReal)) 6 = (p 0 : EReal) * (p 1 : EReal) * (1 - (p 2 : EReal)) := by simp [weight, side]
  have w7 : weight (fun a => (p a : EReal)) 7 = (p 0 : EReal) * (p 1 : EReal) * (p 2 : EReal) := by simp [weight, side]
  rw [w0, w1, w2, w3, w4, w5, w6, w7]
  show _ = _ * f 4 4 4 + _ * f 4 4 5 + _ * f 4 5 4 + _ * f 4 5 5 + _ * f 5 4 4 + _ * f 5 4 5 + _ * f 5 5 4 + _ * f 5 5 5
  generalize (1 - (p 0 : EReal)) = x'
  generalize (1 - (p 1 : EReal)) = y'
  generalize (1 - (p 2 : EReal)) = z'
  generalize (p 0 : EReal) = x
  generalize (p 1 : EReal) = y
  generalize (p 2 : EReal) = z
  generalize f 4 4 4 = a, f 4 4 5 = b, f 4 5 4 = c, f 4 5 5 = d, f 5 4 4 = e, f 5 4 5 = g, f 5 5 4 = h, f 5 5 5 = i
  ac_rfl

/-! ## The light is a nonnegative finite number -/

/-- A corner's weight is nonnegative. -/
theorem weight_nonneg (p : Fin 3 → ℝ) (h0 : ∀ a, 0 ≤ p a) (h1 : ∀ a, p a ≤ 1) (c : Fin 8) :
    0 ≤ weight (fun a => (p a : EReal)) c := by
  have hs : ∀ (far : Prop) [Decidable far] (a : Fin 3), 0 ≤ side far (p a : EReal) := fun far _ a => by
    unfold side
    split_ifs
    · exact coe_nonneg (h0 a)
    · exact one_sub_nonneg (h1 a)
  exact mul_nonneg (mul_nonneg (hs _ 0) (hs _ 1)) (hs _ 2)

/-- A square is nonnegative. -/
theorem square_nonneg (x : EReal) : 0 ≤ x * x := by
  rcases le_total 0 x with h | h
  · exact mul_nonneg h h
  · exact EReal.mul_nonneg_iff.mpr (Or.inr ⟨h, h⟩)

/-- The root of a nonnegative number is nonnegative. -/
theorem sqrt_nonneg {x : EReal} (h : 0 ≤ x) : 0 ≤ Ideal.sqrt x := by
  induction x with
  | bot => simp at h
  | top => simp
  | coe r =>
    rw [Ideal.sqrt_coe, if_neg (not_lt.mpr (EReal.coe_nonneg.mp h))]
    exact coe_nonneg (Real.sqrt_nonneg r)

/-- The length between samples is nonnegative. -/
theorem dist_nonneg (s : Fin 256 → Fin 3 → EReal) (q : Fin 3 → EReal) (n : Fin 256) : 0 ≤ dist s q n :=
  sqrt_nonneg (Finset.sum_nonneg fun _ _ => square_nonneg _)

/-- What a sample absorbs is nonnegative. -/
theorem depth_nonneg (w : Fin 256 → Fin 8 → EReal) (v : Fin 8 → EReal) (d : Fin 256 → EReal) (hd : ∀ n, 0 ≤ d n) (n : Fin 256) :
    0 ≤ depth w v d n :=
  mul_nonneg (le_max_right _ _) (hd n)

/-- What the samples before one absorb is nonnegative. -/
theorem before_nonneg (t : Fin 256 → EReal) (ht : ∀ n, 0 ≤ t n) (n : Fin 256) : 0 ≤ before t n :=
  Finset.sum_nonneg fun j _ => mul_nonneg (by split_ifs <;> simp) (ht j)

/-- The exponential of a number that is not positive is a real between zero and one. -/
theorem exp_neg_real {x : EReal} (h : 0 ≤ x) : ∃ r : ℝ, Ideal.exp (0 - x) = (r : EReal) ∧ 0 ≤ r ∧ r ≤ 1 := by
  induction x with
  | bot => simp at h
  | top => exact ⟨0, by simp, le_refl _, zero_le_one⟩
  | coe r =>
    refine ⟨Real.exp (-r), ?_, (Real.exp_pos _).le, Real.exp_le_one_iff.mpr (neg_nonpos.mpr (EReal.coe_nonneg.mp h))⟩
    rw [← EReal.coe_zero, ← EReal.coe_sub, zero_sub, Ideal.exp_coe]

/-- The light of a sample is a nonnegative real. -/
theorem light_real (t : Fin 256 → EReal) (ht : ∀ n, 0 ≤ t n) (n : Fin 256) : ∃ r : ℝ, light t n = (r : EReal) ∧ 0 ≤ r := by
  obtain ⟨a, ea, ha, -⟩ := exp_neg_real (before_nonneg t ht n)
  obtain ⟨b, eb, -, hb⟩ := exp_neg_real (ht n)
  refine ⟨a * (1 - b), ?_, mul_nonneg ha (by linarith)⟩
  unfold light
  rw [ea, eb, one_sub_coe, ← EReal.coe_mul]

/-! ## The two orders of summation -/

/-- A nonnegative finite factor goes through a finite sum. -/
theorem mul_sum_of {ι : Type} (S : Finset ι) {c : EReal} (h0 : 0 ≤ c) (h1 : c ≠ ⊤) (f : ι → EReal) :
    c * ∑ i ∈ S, f i = ∑ i ∈ S, c * f i := by
  classical
  induction S using Finset.induction_on with
  | empty => simp
  | insert i S hi ih => rw [Finset.sum_insert hi, Finset.sum_insert hi, EReal.left_distrib_of_nonneg_of_ne_top h0 h1, ih]

/-- Any factor goes through a finite sum of nonnegative numbers. -/
theorem sum_mul_of {ι : Type} (S : Finset ι) (x : EReal) (f : ι → EReal) (hf : ∀ i, 0 ≤ f i) :
    (∑ i ∈ S, f i) * x = ∑ i ∈ S, f i * x := by
  classical
  induction S using Finset.induction_on with
  | empty => simp
  | insert i S hi ih =>
    rw [Finset.sum_insert hi, Finset.sum_insert hi, EReal.right_distrib_of_nonneg (hf i) (Finset.sum_nonneg fun _ _ => hf _), ih]

/-- Adding up over the samples the light times the field is adding up over the corners the corner's value times the
    light that falls on it. -/
theorem light_field (w : Fin 256 → Fin 8 → EReal) (hw : ∀ n c, 0 ≤ w n c) (g : Fin 256 → EReal)
    (hg : ∀ n, ∃ r : ℝ, g n = (r : EReal) ∧ 0 ≤ r) (v : Fin 8 → EReal) :
    ∑ n, g n * field w v n = ∑ c, v c * ∑ n, w n c * g n := by
  have g0 : ∀ n, 0 ≤ g n := fun n => by
    obtain ⟨r, e, h⟩ := hg n
    rw [e]; exact coe_nonneg h
  have g1 : ∀ n, g n ≠ ⊤ := fun n => by
    obtain ⟨r, e, -⟩ := hg n
    rw [e]; exact EReal.coe_ne_top r
  calc ∑ n, g n * field w v n = ∑ n, ∑ c, g n * (w n c * v c) :=
        Finset.sum_congr rfl fun n _ => mul_sum_of _ (g0 n) (g1 n) _
    _ = ∑ c, ∑ n, g n * (w n c * v c) := Finset.sum_comm
    _ = ∑ c, v c * ∑ n, w n c * g n := Finset.sum_congr rfl fun c _ => by
        rw [mul_comm, sum_mul_of _ _ _ fun n => mul_nonneg (hw n c) (g0 n)]
        exact Finset.sum_congr rfl fun n _ => by rw [mul_comm (w n c) (g n), mul_assoc]

end Cert.Render

end
-- ==== Proof.RefField.lean ====
/- What the reference reads of the grid at a sample in `[0, 1]`, interpolated: the field of the eight corners of the
   kernel's cell. -/
module

public import proofs.«01_k».proof.Proof.RefTable
public import proofs.«01_k».proof.Proof.Corners

@[expose] public section

set_option maxRecDepth 16384

noncomputable section

namespace Cert.Render.Ref

open Cert.ReferenceIdeal Cert.ReferenceIdeal.Value Cert.ReferenceIdeal.Gen Idealize.ShloMosaic Idealize.ShloMosaic.StableHlo

/-- The f32 word of the number four. -/
theorem four_f32 : Ideal.ofBits .f32 1082130432#32 = ((4 : ℝ) : EReal) := by
  simp [Ideal.ofBits, Ideal.ieee, -EReal.coe_mul]
  norm_num

/-- A grid position as a word, from the real number that it is. -/
theorem word_of (i : Fin 9) : Ideal.fptosi 32 (((i.val : ℤ) : ℝ) : EReal) = BitVec.ofNat 32 i.val := by
  unfold Ideal.fptosi
  rw [Ideal.toIntClamped_coe, if_pos (by positivity), Int.floor_intCast]
  revert i
  decide

/-- The floor of a grid position, as an index word. -/
theorem floor_word {x : ℝ} (h0 : 0 ≤ x) (h1 : x ≤ 1) :
    Ideal.fptosi 32 (Ideal.liftRound Int.floor ((x : EReal) + Ideal.ofBits .f32 1082130432#32)) = BitVec.ofNat 32 (low x).val := by
  rw [four_f32, ← EReal.coe_add]
  show Ideal.fptosi 32 (((⌊x + 4⌋ : ℤ) : ℝ) : EReal) = _
  rw [low_floor h0 h1]
  exact word_of _

/-- The ceiling of a grid position, as an index word. -/
theorem ceil_word {x : ℝ} (h0 : 0 ≤ x) (h1 : x ≤ 1) :
    Ideal.fptosi 32 (Ideal.liftRound Int.ceil ((x : EReal) + Ideal.ofBits .f32 1082130432#32)) = BitVec.ofNat 32 (high x).val := by
  rw [four_f32, ← EReal.coe_add]
  show Ideal.fptosi 32 (((⌈x + 4⌉ : ℤ) : ℝ) : EReal) = _
  rw [high_ceil h0 h1]
  exact word_of _

variable (V0 : Valuation τ sig (Elt Ideal)) (p : Fin 256 → Fin 3 → ℝ)

/-- The samples are the reals `p`, all in `[0, 1]`. -/
structure InCell : Prop where
  eq : ∀ n a, V0 (Proc.devRef .tc main_arg0) (ix2 n a) = (p n a : EReal)
  nonneg : ∀ n a, 0 ≤ p n a
  le_one : ∀ n a, p n a ≤ 1

variable {V0 p} (hp : InCell V0 p) (n : Fin 256)

include hp

/-! ## The three coordinates, their fractions and their index words -/

/-- The three coordinates of a sample, as the reference takes them apart. -/
theorem x_at : res_main_v1 V0 (ix1 n) = (p n 0 : EReal) := by
  rw [← hp.eq]; unfold res_main_v1; clean_types; pointwise

theorem y_at : res_main_v3 V0 (ix1 n) = (p n 1 : EReal) := by
  rw [← hp.eq]; unfold res_main_v3; clean_types; pointwise

theorem z_at : res_main_v5 V0 (ix1 n) = (p n 2 : EReal) := by
  rw [← hp.eq]; unfold res_main_v5; clean_types; pointwise

/-- The three fractions of a sample. -/
theorem dx_at : res_main_v8 V0 (ix3 n (0 : Fin 1) (0 : Fin 1)) = (p n 0 : EReal) - ((⌊p n 0⌋ : ℝ) : EReal) := by
  unfold res_main_v8; clean_types; pointwise; rw [x_at hp]; rfl

theorem dy_at : res_main_v11 V0 (ix3 n (0 : Fin 1) (0 : Fin 1)) = (p n 1 : EReal) - ((⌊p n 1⌋ : ℝ) : EReal) := by
  unfold res_main_v11; clean_types; pointwise; rw [y_at hp]; rfl

theorem dz_at : res_main_v14 V0 (ix3 n (0 : Fin 1) (0 : Fin 1)) = (p n 2 : EReal) - ((⌊p n 2⌋ : ℝ) : EReal) := by
  unfold res_main_v14; clean_types; pointwise; rw [z_at hp]; rfl

/-- The words of the floors and the ceilings of a sample's grid positions, axis by axis. -/
theorem fx_at : res_main_v22 V0 (ix1 n) = BitVec.ofNat 32 (low (p n 0)).val := by
  unfold res_main_v22 res_main_v16; clean_types; pointwise; rw [x_at hp]; exact floor_word (hp.nonneg n 0) (hp.le_one n 0)

theorem cx_at : res_main_v24 V0 (ix1 n) = BitVec.ofNat 32 (high (p n 0)).val := by
  unfold res_main_v24 res_main_v16; clean_types; pointwise; rw [x_at hp]; exact ceil_word (hp.nonneg n 0) (hp.le_one n 0)

theorem fy_at : res_main_v26 V0 (ix1 n) = BitVec.ofNat 32 (low (p n 1)).val := by
  unfold res_main_v26 res_main_v18; clean_types; pointwise; rw [y_at hp]; exact floor_word (hp.nonneg n 1) (hp.le_one n 1)

theorem cy_at : res_main_v28 V0 (ix1 n) = BitVec.ofNat 32 (high (p n 1)).val := by
  unfold res_main_v28 res_main_v18; clean_types; pointwise; rw [y_at hp]; exact ceil_word (hp.nonneg n 1) (hp.le_one n 1)

theorem fz_at : res_main_v30 V0 (ix1 n) = BitVec.ofNat 32 (low (p n 2)).val := by
  unfold res_main_v30 res_main_v20; clean_types; pointwise; rw [z_at hp]; exact floor_word (hp.nonneg n 2) (hp.le_one n 2)

theorem cz_at : res_main_v32 V0 (ix1 n) = BitVec.ofNat 32 (high (p n 2)).val := by
  unfold res_main_v32 res_main_v20; clean_types; pointwise; rw [z_at hp]; exact ceil_word (hp.nonneg n 2) (hp.le_one n 2)

omit hp

/-! ## Interpolation along the first two axes -/

/-- One level of the reference's interpolation as its printed text spells it: along the first axis between the tables
    `a` and `b`, and between `c` and `d`; then along the second between the two. -/
abbrev level (a b c d : FVec Ideal S256x31x768 .f32) (dx dy : FVec Ideal S256x1x1 .f32) : FVec Ideal S256x31x768 .f32 :=
  addf (mulf (addf (mulf a (broadcastInDim S256x31x768 ![0, 1, 2] bcast_S256x1x1_S256x31x768_0_1_2
        (subf (broadcastInDim S256x1x1 ![] bcast_S_S256x1x1 (constant S_ .f32 0x3F800000#32)) dx)))
      (mulf b (broadcastInDim S256x31x768 ![0, 1, 2] bcast_S256x1x1_S256x31x768_0_1_2 dx)))
      (broadcastInDim S256x31x768 ![0, 1, 2] bcast_S256x1x1_S256x31x768_0_1_2
        (subf (broadcastInDim S256x1x1 ![] bcast_S_S256x1x1 (constant S_ .f32 0x3F800000#32)) dy)))
    (mulf (addf (mulf c (broadcastInDim S256x31x768 ![0, 1, 2] bcast_S256x1x1_S256x31x768_0_1_2
        (subf (broadcastInDim S256x1x1 ![] bcast_S_S256x1x1 (constant S_ .f32 0x3F800000#32)) dx)))
      (mulf d (broadcastInDim S256x31x768 ![0, 1, 2] bcast_S256x1x1_S256x31x768_0_1_2 dx)))
      (broadcastInDim S256x31x768 ![0, 1, 2] bcast_S256x1x1_S256x31x768_0_1_2 dy))

/-- One level at an index. -/
theorem level_at (a b c d : FVec Ideal S256x31x768 .f32) (dx dy : FVec Ideal S256x1x1 .f32) (n : Fin 256) (k : Fin 31) (l : Fin 768) :
    level a b c d dx dy (ix3 n k l)
      = ((a (ix3 n k l) : EReal) * (1 - dx (ix3 n 0 0)) + b (ix3 n k l) * dx (ix3 n 0 0)) * (1 - dy (ix3 n 0 0))
        + (c (ix3 n k l) * (1 - dx (ix3 n 0 0)) + d (ix3 n k l) * dx (ix3 n 0 0)) * dy (ix3 n 0 0) := by
  pointwise

/-- The embeddings at grid position `(a, b, c)`, for a feature row and a lane. -/
def slot (V0 : Valuation τ sig (Elt Ideal)) (k : Fin 31) (l : Fin 768) (a b c : Fin 9) : EReal :=
  V0 (Proc.devRef .tc main_arg2) (ix5 a b c k l)

/-- Interpolation of `g` along the first two axes between the grid positions 4 and 5. -/
def planar (g : Fin 9 → Fin 9 → EReal) (x y : ℝ) : EReal :=
  (g 4 4 * (1 - (x : EReal)) + g 5 4 * (x : EReal)) * (1 - (y : EReal))
    + (g 4 5 * (1 - (x : EReal)) + g 5 5 * (x : EReal)) * (y : EReal)

include hp

/-- The lower level, at the floor of the third coordinate. -/
theorem lower_at (k : Fin 31) (l : Fin 768) :
    res_main_v133 V0 (ix3 n k l) = planar (fun a b => slot V0 k l a b (low (p n 2))) (p n 0) (p n 1) := by
  have e : res_main_v133 V0 = level
      (tableAt (V0 (Proc.devRef .tc main_arg2)) (res_main_v22 V0) (res_main_v26 V0) (res_main_v30 V0))
      (tableAt (V0 (Proc.devRef .tc main_arg2)) (res_main_v24 V0) (res_main_v26 V0) (res_main_v30 V0))
      (tableAt (V0 (Proc.devRef .tc main_arg2)) (res_main_v22 V0) (res_main_v28 V0) (res_main_v30 V0))
      (tableAt (V0 (Proc.devRef .tc main_arg2)) (res_main_v24 V0) (res_main_v28 V0) (res_main_v30 V0))
      (res_main_v8 V0) (res_main_v11 V0) := rfl
  rw [e]
  refine (level_at _ _ _ _ _ _ n k l).trans ?_
  rw [tableAt_at _ _ _ _ n k l _ _ _ (fx_at hp n) (fy_at hp n) (fz_at hp n),
    tableAt_at _ _ _ _ n k l _ _ _ (cx_at hp n) (fy_at hp n) (fz_at hp n),
    tableAt_at _ _ _ _ n k l _ _ _ (fx_at hp n) (cy_at hp n) (fz_at hp n),
    tableAt_at _ _ _ _ n k l _ _ _ (cx_at hp n) (cy_at hp n) (fz_at hp n), dx_at hp n, dy_at hp n]
  have hx := fun b c => lerp_ends (fun a => slot V0 k l a b c) (hp.nonneg n 0) (hp.le_one n 0)
  have hy := lerp_ends (fun b => slot V0 k l 4 b (low (p n 2)) * (1 - (p n 0 : EReal)) + slot V0 k l 5 b (low (p n 2)) * (p n 0 : EReal))
    (hp.nonneg n 1) (hp.le_one n 1)
  refine Eq.trans ?_ hy
  exact congrArg₂ (fun u v => u * (1 - ((p n 1 : EReal) - ((⌊p n 1⌋ : ℝ) : EReal))) + v * ((p n 1 : EReal) - ((⌊p n 1⌋ : ℝ) : EReal)))
    (hx _ _) (hx _ _)

/-- The upper level, at the ceiling of the third coordinate. -/
theorem upper_at (k : Fin 31) (l : Fin 768) :
    res_main_v234 V0 (ix3 n k l) = planar (fun a b => slot V0 k l a b (high (p n 2))) (p n 0) (p n 1) := by
  have e : res_main_v234 V0 = level
      (tableAt (V0 (Proc.devRef .tc main_arg2)) (res_main_v22 V0) (res_main_v26 V0) (res_main_v32 V0))
      (tableAt (V0 (Proc.devRef .tc main_arg2)) (res_main_v24 V0) (res_main_v26 V0) (res_main_v32 V0))
      (tableAt (V0 (Proc.devRef .tc main_arg2)) (res_main_v22 V0) (res_main_v28 V0) (res_main_v32 V0))
      (tableAt (V0 (Proc.devRef .tc main_arg2)) (res_main_v24 V0) (res_main_v28 V0) (res_main_v32 V0))
      (res_main_v8 V0) (res_main_v11 V0) := rfl
  rw [e]
  refine (level_at _ _ _ _ _ _ n k l).trans ?_
  rw [tableAt_at _ _ _ _ n k l _ _ _ (fx_at hp n) (fy_at hp n) (cz_at hp n),
    tableAt_at _ _ _ _ n k l _ _ _ (cx_at hp n) (fy_at hp n) (cz_at hp n),
    tableAt_at _ _ _ _ n k l _ _ _ (fx_at hp n) (cy_at hp n) (cz_at hp n),
    tableAt_at _ _ _ _ n k l _ _ _ (cx_at hp n) (cy_at hp n) (cz_at hp n), dx_at hp n, dy_at hp n]
  have hx := fun b c => lerp_ends (fun a => slot V0 k l a b c) (hp.nonneg n 0) (hp.le_one n 0)
  have hy := lerp_ends (fun b => slot V0 k l 4 b (high (p n 2)) * (1 - (p n 0 : EReal)) + slot V0 k l 5 b (high (p n 2)) * (p n 0 : EReal))
    (hp.nonneg n 1) (hp.le_one n 1)
  refine Eq.trans ?_ hy
  exact congrArg₂ (fun u v => u * (1 - ((p n 1 : EReal) - ((⌊p n 1⌋ : ℝ) : EReal))) + v * ((p n 1 : EReal) - ((⌊p n 1⌋ : ℝ) : EReal)))
    (hx _ _) (hx _ _)

/-- The interpolated embeddings at sample `n`: the field of the corners. -/
theorem field_at (k : Fin 31) (l : Fin 768) :
    res_main_v241 V0 (ix3 n k l) = field (fun n => weight fun a => (p n a : EReal))
      (fun c => slot V0 k l (⟨4 + c.val / 4, by omega⟩ : Fin 9) (⟨4 + c.val / 2 % 2, by omega⟩ : Fin 9) (⟨4 + c.val % 2, by omega⟩ : Fin 9)) n := by
  unfold res_main_v241
  clean_types
  pointwise
  rw [lower_at hp n k l, upper_at hp n k l, dz_at hp n]
  refine (lerp_ends (fun c => planar (fun a b => slot V0 k l a b c) (p n 0) (p n 1)) (hp.nonneg n 2) (hp.le_one n 2)).trans ?_
  exact nested_eq_field (slot V0 k l) (p n) (hp.nonneg n) (hp.le_one n)

end Cert.Render.Ref

end
-- ==== Proof.RefCumsum.lean ====
/- The reference's running sum down the samples, at an index: a window as long as the axis, padded low by one less. -/
module

public import proofs.«01_k».proof.Proof.Gen.ReferenceIdeal.Run
public import proofs.«01_k».proof.Proof.Render
public import Idealize.ShloMosaic.Lib.Pointwise

@[expose] public section

noncomputable section

namespace Cert.Render.Ref

open Cert.ReferenceIdeal Cert.ReferenceIdeal.Gen Idealize.ShloMosaic

/-- Adding up a list from the left, from `v`. -/
theorem foldl_add_sum {ι : Type} (L : List ι) (g : ι → EReal) (v : EReal) :
    L.foldl (fun r n => r + g n) v = v + (L.map g).sum := by
  induction L generalizing v with
  | nil => simp
  | cons a L ih => rw [List.foldl_cons, ih, List.map_cons, List.sum_cons, add_assoc]

/-- The window of the running sum: one column of the axis' length. -/
abbrev window : Shape := ⟨2, ![256, 1]⟩

/-- The window has as many places as there are samples. -/
theorem window_numel : window.numel = 256 := by
  show ∏ a : Fin 2, (![256, 1] : Fin 2 → ℕ) a = 256
  rw [Fin.prod_univ_two]
  rfl

/-- Position `n` of the window is row `n` of its one column. -/
theorem window_symm (n : Fin window.numel) : window.rowMajor.symm n = ix2 (n.cast window_numel) (0 : Fin 1) :=
  (window.rowMajor.symm_apply_eq).2 (Fin.ext (by
    rw [Shape.rowMajor_val_two]
    show n.val = n.val * 1 + 0
    omega))

/-- The window that ends at `n`, moved to the rows it covers. -/
theorem sum_window (F : Fin 256 → EReal) (n : Fin 256) :
    (∑ w : Fin 256, if h : 255 ≤ n.val + w.val then F ⟨n.val + w.val - 255, by omega⟩ else 0)
      = ∑ j : Fin 256, if j ≤ n then F j else 0 := by
  have e : ∀ w : Fin 256, (if h : 255 ≤ n.val + w.val then F ⟨n.val + w.val - 255, by omega⟩ else 0)
      = if 255 ≤ n.val + w.val then F ⟨n.val + w.val - 255, by omega⟩ else 0 := fun w => by split_ifs <;> rfl
  rw [Finset.sum_congr rfl fun w _ => e w, ← Finset.sum_filter, ← Finset.sum_filter]
  refine Finset.sum_bij (fun w _ => (⟨n.val + w.val - 255, by omega⟩ : Fin 256)) ?_ ?_ ?_ ?_
  · intro w hw
    simp only [Finset.mem_filter, Finset.mem_univ, true_and, Fin.le_def] at hw ⊢
    omega
  · intro w hw w' hw' h
    simp only [Finset.mem_filter, Finset.mem_univ, true_and, Fin.mk.injEq] at hw hw' h
    exact Fin.ext (by omega)
  · intro j hj
    simp only [Finset.mem_filter, Finset.mem_univ, true_and, Fin.le_def] at hj
    refine ⟨⟨j.val + 255 - n.val, by omega⟩, ?_, ?_⟩
    · simp only [Finset.mem_filter, Finset.mem_univ, true_and]
      omega
    · exact Fin.ext (show n.val + (j.val + 255 - n.val) - 255 = j.val by omega)
  · intro w _
    rfl

/-- The running sum at row `n` adds up the rows up to `n`. -/
theorem cumsum_at (x : FVec Ideal S256x768 .f32) (init : FVec Ideal S_ .f32) (h0 : init (Shape.Idx.first h_S_) = (0 : EReal))
    (n : Fin 256) (l : Fin 768) :
    Host.reduceWindowAdd ![256, 1] ![1, 1] ![255, 0] ![0, 0] x init reduceWindows_S256x768_S256x768_w256s1p255_0_w1s1p0_0 h_S_ (ix2 n l)
      = ∑ j : Fin 256, if j ≤ n then (x (ix2 j l) : EReal) else 0 := by
  unfold Host.reduceWindowAdd
  show Ideal.hostReduceWindowAdd _ _ _ _ _ x (init (Shape.Idx.first h_S_)) (ix2 n l) = _
  unfold Ideal.hostReduceWindowAdd Host.reduceWindow
  refine (foldl_add_sum (List.finRange window.numel) _ _).trans ?_
  rw [h0, zero_add, ← Fin.sum_univ_def, ← sum_window fun j => x (ix2 j l)]
  refine Fintype.sum_equiv (finCongr window_numel) _ _ fun w => ?_
  have hw0 : (window.rowMajor.symm w 0).val = w.val := by rw [window_symm]; rfl
  have hw1 : (window.rowMajor.symm w 1).val = 0 := by rw [window_symm]; rfl
  have hw : w.val < 256 := (w.cast window_numel).isLt
  have hn := n.isLt
  have hl := l.isLt
  dsimp only
  split
  · next hin =>
    have h0 := hin 0
    change 255 ≤ n.val * 1 + (window.rowMajor.symm w 0).val ∧ n.val * 1 + (window.rowMajor.symm w 0).val - 255 < 256 at h0
    rw [hw0] at h0
    rw [dif_pos (show 255 ≤ n.val + (finCongr window_numel w).val from (show 255 ≤ n.val + w.val by omega))]
    refine congrArg x (funext fun a => Fin.ext ?_)
    match a with
    | ⟨0, _⟩ =>
      show n.val * 1 + (window.rowMajor.symm w 0).val - 255 = n.val + w.val - 255
      rw [hw0, Nat.mul_one]
    | ⟨1, _⟩ =>
      show l.val * 1 + (window.rowMajor.symm w 1).val - 0 = l.val
      rw [hw1]
      omega
  · next hin =>
    rw [dif_neg fun hle : 255 ≤ n.val + (finCongr window_numel w).val => hin fun a => by
      replace hle : 255 ≤ n.val + w.val := hle
      match a with
      | ⟨0, _⟩ =>
        show 255 ≤ n.val * 1 + (window.rowMajor.symm w 0).val ∧ n.val * 1 + (window.rowMajor.symm w 0).val - 255 < 256
        rw [hw0]
        omega
      | ⟨1, _⟩ =>
        show 0 ≤ l.val * 1 + (window.rowMajor.symm w 1).val ∧ l.val * 1 + (window.rowMajor.symm w 1).val - 0 < 768
        rw [hw1]
        omega]

end Cert.Render.Ref

end
-- ==== Proof.RefValue.lean ====
/- What the reference leaves in its result, at an index, for samples in `[0, 1]`: over the samples, the light that each
   gives times the field there. -/
module

public import proofs.«01_k».proof.Proof.RefField
public import proofs.«01_k».proof.Proof.RefCumsum

@[expose] public section

set_option maxRecDepth 16384

noncomputable section

namespace Cert.Render.Ref

open Cert.ReferenceIdeal Cert.ReferenceIdeal.Value Cert.ReferenceIdeal.Gen Idealize.ShloMosaic Idealize.ShloMosaic.StableHlo

variable {V0 : Valuation τ sig (Elt Ideal)} {p : Fin 256 → Fin 3 → ℝ} (hp : InCell V0 p)

/-- The eight corners' values for feature row `k` and lane `l`. -/
def corners (V0 : Valuation τ sig (Elt Ideal)) (k : Fin 31) (l : Fin 768) (c : Fin 8) : EReal :=
  slot V0 k l (⟨4 + c.val / 4, by omega⟩ : Fin 9) (⟨4 + c.val / 2 % 2, by omega⟩ : Fin 9) (⟨4 + c.val % 2, by omega⟩ : Fin 9)

/-- The corners' weights at every sample. -/
def weightsOf (p : Fin 256 → Fin 3 → ℝ) (n : Fin 256) : Fin 8 → EReal := weight fun a => (p n a : EReal)

/-- What every sample absorbs in lane `l`. -/
def depths (V0 : Valuation τ sig (Elt Ideal)) (p : Fin 256 → Fin 3 → ℝ) (l : Fin 768) : Fin 256 → EReal :=
  depth (weightsOf p) (corners V0 30 l)
    (dist (fun n a => (p n a : EReal)) (fun a => V0 (Proc.devRef .tc main_arg1) (ix1 a)))

include hp

/-- The vector from a sample to the next, as the reference takes it before the last sample. -/
theorem inner_at (n : Fin 255) (a : Fin 3) : res_main_v248 V0 (ix2 n a)
    = (p (⟨n.val, by omega⟩ : Fin 256) a : EReal) - (p (⟨n.val + 1, by omega⟩ : Fin 256) a : EReal) := by
  unfold res_main_v248
  clean_types
  pointwise
  rw [hp.eq, hp.eq]
  refine congrArg (fun i : Fin 256 => (p (⟨n.val, by omega⟩ : Fin 256) a : EReal) - (p i a : EReal)) (Fin.ext ?_)
  exact Nat.add_comm 1 n.val

/-- The vector from the last sample to the last point. -/
theorem last_at (a : Fin 3) : res_main_v252 V0 (ix1 a)
    = (p (255 : Fin 256) a : EReal) - V0 (Proc.devRef .tc main_arg1) (ix1 a) := by
  unfold res_main_v252
  clean_types
  pointwise
  rw [hp.eq]

/-- What a sample absorbs, as the reference computes it. -/
theorem depths_at (n : Fin 256) (l : Fin 768) : res_main_v258 V0 (ix2 n l) = depths V0 p l n := by
  unfold res_main_v258
  clean_types
  pointwise
  rw [field_at hp n 30 l]
  refine congrArg (max (field (weightsOf p) (corners V0 30 l) n) 0 * ·) ?_
  unfold dist
  split
  · next h =>
    refine congrArg Ideal.sqrt (Finset.sum_congr rfl fun a _ => ?_)
    rw [inner_at hp]
    simp only [step, dif_pos h]
  · next h =>
    refine congrArg Ideal.sqrt (Finset.sum_congr rfl fun a _ => ?_)
    rw [last_at hp]
    simp only [step, dif_neg h]
    have : n = 255 := Fin.ext (show n.val = 255 by omega)
    rw [this]

omit hp

/-- What is added up before a sample: nothing before the first, and before another one the running sum at the sample
    in front of it. -/
theorem before_eq (t : Fin 256 → EReal) (n : Fin 256) :
    before t n = if h : n.val < 1 then 0 else ∑ j : Fin 256, if j ≤ (⟨n.val - 1, by omega⟩ : Fin 256) then t j else 0 := by
  unfold before
  split
  · next h =>
    refine Finset.sum_eq_zero fun j _ => ?_
    rw [if_neg (by rw [Fin.lt_def]; omega), zero_mul]
  · next h =>
    refine Finset.sum_congr rfl fun j _ => ?_
    have e : j < n ↔ j ≤ (⟨n.val - 1, by omega⟩ : Fin 256) := by
      rw [Fin.lt_def, Fin.le_def]
      show j.val < n.val ↔ j.val ≤ n.val - 1
      omega
    by_cases hj : j < n
    · rw [if_pos hj, if_pos (e.mp hj), one_mul]
    · rw [if_neg hj, if_neg (fun h' => hj (e.mpr h')), zero_mul]

include hp

/-- The reference's running sum, moved down by one sample, is what the samples before one absorb. -/
theorem before_at (n : Fin 256) (l : Fin 768) :
    (concatenate S256x768 0 [⟨S1x768, (broadcastInDim S1x768 ![] bcast_S_S1x768 (constant S_ .f32 0x00000000#32) : FVec Ideal S1x768 .f32)⟩,
        ⟨S255x768, (extractStridedSlice S255x768 ![0, 0]
          (Host.reduceWindowAdd ![256, 1] ![1, 1] ![255, 0] ![0, 0] (res_main_v258 V0) (broadcastInDim S_ ![] bcast_S_S_ (constant S_ .f32 0x00000000#32))
            reduceWindows_S256x768_S256x768_w256s1p255_0_w1s1p0_0 h_S_ : FVec Ideal S256x768 .f32) slices_S256x768_S255x768_0_0)⟩]
        concatenates_S1x768_S255x768_S256x768_d0 : FVec Ideal S256x768 .f32) (ix2 n l) = before (depths V0 p l) n := by
  rw [before_eq]
  generalize hW : (Host.reduceWindowAdd ![256, 1] ![1, 1] ![255, 0] ![0, 0] (res_main_v258 V0) (broadcastInDim S_ ![] bcast_S_S_ (constant S_ .f32 0x00000000#32))
            reduceWindows_S256x768_S256x768_w256s1p255_0_w1s1p0_0 h_S_ : FVec Ideal S256x768 .f32) = W
  have e : ∀ (i : Fin 256), W (ix2 i l) = ∑ j : Fin 256, if j ≤ i then depths V0 p l j else 0 := fun i => by
    rw [← hW]
    refine (cumsum_at (res_main_v258 V0) _ (by pointwise) i l).trans (Finset.sum_congr rfl fun j _ => ?_)
    rw [depths_at hp]
  pointwise
  split
  · rfl
  · exact e _

/-- What the reference's result is, of what its arguments hold. -/
def result (V0 : Valuation τ sig (Elt Ideal)) : FVec Ideal S30x768 .f32 :=
  Host.reduceAdd (mulf (broadcastInDim S256x30x768 ![0, 1, 2] bcast_S256x1x768_S256x30x768_0_1_2 (broadcastInDim S256x1x768 ![0, 2] bcast_S256x768_S256x1x768_0_2
      (mulf (Host.exp (Host.negf (concatenate S256x768 0 [⟨S1x768, (broadcastInDim S1x768 ![] bcast_S_S1x768 (constant S_ .f32 0x00000000#32))⟩,
          ⟨S255x768, (extractStridedSlice S255x768 ![0, 0]
            (Host.reduceWindowAdd ![256, 1] ![1, 1] ![255, 0] ![0, 0] (res_main_v258 V0) (broadcastInDim S_ ![] bcast_S_S_ (constant S_ .f32 0x00000000#32))
              reduceWindows_S256x768_S256x768_w256s1p255_0_w1s1p0_0 h_S_) slices_S256x768_S255x768_0_0)⟩]
          concatenates_S1x768_S255x768_S256x768_d0)))
        (subf (broadcastInDim S256x768 ![] bcast_S_S256x768 (constant S_ .f32 0x3F800000#32)) (Host.exp (Host.negf (res_main_v258 V0)))))))
      (extractStridedSlice S256x30x768 ![0, 0, 0] (res_main_v241 V0) slices_S256x31x768_S256x30x768_0_0_0))
    (constant S_ .f32 0x00000000#32) reducesTo_S256x30x768_S30x768_d0 h_S_

/-- That result at feature `k` and lane `l`. -/
theorem result_at (k : Fin 30) (l : Fin 768) :
    result V0 (ix2 k l) = ∑ n, light (depths V0 p l) n * field (weightsOf p) (corners V0 (⟨k.val, by omega⟩ : Fin 31) l) n := by
  unfold result
  generalize hC : (concatenate S256x768 0 [⟨S1x768, (broadcastInDim S1x768 ![] bcast_S_S1x768 (constant S_ .f32 0x00000000#32) : FVec Ideal S1x768 .f32)⟩,
        ⟨S255x768, (extractStridedSlice S255x768 ![0, 0]
          (Host.reduceWindowAdd ![256, 1] ![1, 1] ![255, 0] ![0, 0] (res_main_v258 V0) (broadcastInDim S_ ![] bcast_S_S_ (constant S_ .f32 0x00000000#32))
            reduceWindows_S256x768_S256x768_w256s1p255_0_w1s1p0_0 h_S_ : FVec Ideal S256x768 .f32) slices_S256x768_S255x768_0_0)⟩]
        concatenates_S1x768_S255x768_S256x768_d0 : FVec Ideal S256x768 .f32) = C
  have hb : ∀ n : Fin 256, C (ix2 n l) = before (depths V0 p l) n := fun n => by
    rw [← hC]
    exact before_at hp n l
  clean_types
  pointwise
  refine Finset.sum_congr rfl fun n _ => ?_
  rw [hb, depths_at hp, field_at hp n (⟨k.val, by omega⟩ : Fin 31) l]
  unfold light
  rw [zero_sub, zero_sub]
  rfl

omit hp

/-- What a sample absorbs is nonnegative. -/
theorem depths_nonneg (V0 : Valuation τ sig (Elt Ideal)) (p : Fin 256 → Fin 3 → ℝ) (l : Fin 768) (n : Fin 256) : 0 ≤ depths V0 p l n :=
  depth_nonneg _ _ _ (dist_nonneg _ _) n

include hp

/-- The same, corner by corner: each corner's value times the light that falls on it. -/
theorem result_corners (k : Fin 30) (l : Fin 768) :
    result V0 (ix2 k l) = ∑ c, corners V0 (⟨k.val, by omega⟩ : Fin 31) l c * ∑ n, weightsOf p n c * light (depths V0 p l) n :=
  (result_at hp k l).trans (light_field _ (fun n c => weight_nonneg (p n) (hp.nonneg n) (hp.le_one n) c) _
    (light_real _ (depths_nonneg V0 p l)) _)

end Cert.Render.Ref

end
-- ==== Proof.InCell.lean ====
/- The precondition read: every coordinate of every sample is a real in `[0, 1]`. -/
module

public import proofs.«01_k».proof.Pre_in_cell
public import Idealize.ShloMosaic.Lib.Pointwise

@[expose] public section

noncomputable section

namespace Cert.Render

open Idealize.ShloMosaic Cert.Pre_in_cell

/-- The side condition that the precondition states: a scalar broadcasts to the samples' shape. -/
theorem preFacts : Cert.Pre_in_cell.Facts := ⟨by decide⟩

/-- Where the precondition is one at every coordinate of the samples, they are reals in `[0, 1]`. -/
theorem real_of_pre (s : FVec Ideal S256x3 .f32) (q : FVec Ideal S3 .f32) (e : FVec Ideal S9x9x9x31x768 .f32)
    (h : @Cert.Pre_in_cell.fn preFacts Ideal _ s q e = fun _ => 1#1) :
    ∃ p : Fin 256 → Fin 3 → ℝ, (∀ n a, s (ix2 n a) = (p n a : EReal)) ∧ (∀ n a, 0 ≤ p n a) ∧ ∀ n a, p n a ≤ 1 := by
  have hb : ∀ n a, (0 : EReal) ≤ s (ix2 n a) ∧ s (ix2 n a) ≤ (1 : EReal) := fun n a => by
    have hn := congrFun h (ix2 n a)
    unfold Cert.Pre_in_cell.fn at hn
    pointwise at hn
    by_cases h0 : (0 : EReal) ≤ s (ix2 n a)
    · by_cases h1 : s (ix2 n a) ≤ (1 : EReal)
      · exact ⟨h0, h1⟩
      · rw [decide_eq_true h0, decide_eq_false h1] at hn
        exact absurd hn (by decide)
    · rw [decide_eq_false h0] at hn
      revert hn
      generalize decide (s (ix2 n a) ≤ (1 : EReal)) = b
      cases b
      · exact fun hn => absurd hn (by decide)
      · exact fun hn => absurd hn (by decide)
  have hr : ∀ n a, ∃ r : ℝ, s (ix2 n a) = (r : EReal) ∧ 0 ≤ r ∧ r ≤ 1 := fun n a => by
    obtain ⟨h0, h1⟩ := hb n a
    have ht : s (ix2 n a) ≠ ⊤ := fun e => by rw [e] at h1; exact absurd h1 (not_le.mpr (EReal.coe_lt_top 1))
    have hbot : s (ix2 n a) ≠ ⊥ := fun e => by rw [e] at h0; exact absurd h0 (by simp)
    have e := EReal.coe_toReal ht hbot
    refine ⟨(s (ix2 n a)).toReal, e.symm, ?_, ?_⟩
    · rw [← e] at h0; exact EReal.coe_nonneg.mp h0
    · rw [← e, ← EReal.coe_one] at h1; exact EReal.coe_le_coe_iff.mp h1
  choose p hp using hr
  exact ⟨p, fun n a => (hp n a).1, fun n a => (hp n a).2.1, fun n a => (hp n a).2.2⟩

end Cert.Render

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.KernelArray
public import proofs.«01_k».proof.Proof.RefValue
public import proofs.«01_k».proof.Proof.InCell
public import Idealize.ShloMosaic.Adequacy
public import Idealize.ShloMosaic.Init

@[expose] public section

set_option maxRecDepth 16384

noncomputable section

namespace Cert.Proof

open Idealize.ShloMosaic Idealize.ShloMosaic.TcCoe Idealize.SL.Sem Cert.Render

/-- The reference's run, with its result by name, its arguments unchanged and no semaphore to account for. -/
theorem reference_run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      fun r => ∀ c : Dev Cert.ReferenceIdeal.nD,
        r.2.mem ((c.tc : Thread _ Cert.ReferenceIdeal.τ).loc Cert.ReferenceIdeal.main_v273) = Ref.result (StableHlo.launchContents m c)
        ∧ r.2.mem ((c.tc : Thread _ Cert.ReferenceIdeal.τ).loc Cert.ReferenceIdeal.main_arg0) = m ((c.tc : Thread _ Cert.ReferenceIdeal.τ).loc Cert.ReferenceIdeal.main_arg0)
        ∧ r.2.mem ((c.tc : Thread _ Cert.ReferenceIdeal.τ).loc Cert.ReferenceIdeal.main_arg1) = m ((c.tc : Thread _ Cert.ReferenceIdeal.τ).loc Cert.ReferenceIdeal.main_arg1)
        ∧ r.2.mem ((c.tc : Thread _ Cert.ReferenceIdeal.τ).loc Cert.ReferenceIdeal.main_arg2) = m ((c.tc : Thread _ Cert.ReferenceIdeal.τ).loc Cert.ReferenceIdeal.main_arg2) :=
  Cert.ReferenceIdeal.Value.run m g

/-- The reference runs, leaves its arguments alone and ends with every counter at zero. -/
theorem reference_frame : Cert.quiescent_ReferenceIdeal (hReferenceIdeal := Cert.ReferenceIdeal.Gen.facts) := by
  intro m g _
  exact (θ_run Cert.ReferenceIdeal.defs _ _).mono (fun r h => ⟨fun c => (h c).2, sem_eq_zero_of_no_sems (by decide) r.2⟩)
    (reference_run m g)

/-- For samples in `[0, 1]`, what the kernel's closed form says of the arguments is what the reference's result holds. -/
theorem values (V0 : Valuation Cert.ReferenceIdeal.τ Cert.ReferenceIdeal.sig (Elt Ideal)) (p : Fin 256 → Fin 3 → ℝ) (hp : Ref.InCell V0 p)
    (k : Fin 30) (l : Fin 768) :
    kernelResult (V0 (Proc.devRef .tc Cert.ReferenceIdeal.main_arg0)) (V0 (Proc.devRef .tc Cert.ReferenceIdeal.main_arg1))
      (V0 (Proc.devRef .tc Cert.ReferenceIdeal.main_arg2)) k l = Ref.result V0 (ix2 k l) := by
  refine Eq.trans ?_ (Ref.result_corners hp k l).symm
  unfold kernelResult
  simp only [hp.eq]
  rfl

/-- Kernel and reference compute the same function over the extended reals, for samples in `[0, 1]`. -/
theorem algebraic : Cert.algebraic_KernelIdeal_ReferenceIdeal_pre_in_cell (hKernelIdeal := Cert.KernelIdeal.Gen.facts)
    (hReferenceIdeal := Cert.ReferenceIdeal.Gen.facts) (hPre_in_cell := preFacts) := by
  intro m g m' g' hpre hagree
  refine ⟨fun c => Ref.result (StableHlo.launchContents m' c), ?_, reference_run m' g'⟩
  refine (θ_run Cert.KernelIdeal.defs _ _).mono (fun r h c => ⟨(h c).1.trans ?_, (h c).2⟩) (Cert.KernelIdeal.Value.run_blocks m g)
  obtain ⟨p, hp, h0, h1⟩ := real_of_pre _ _ _ (hpre c)
  obtain ⟨a0, a1, a2⟩ := hagree c
  have hin : Ref.InCell (StableHlo.launchContents m' c) p := ⟨fun n a => (congrFun a0 (ix2 n a)).trans (hp n a), h0, h1⟩
  refine funext fun (i : Cert.KernelIdeal.S30x768.Idx) => ?_
  idx_vars i
  refine (array_at m c i0 i1).trans (Eq.trans ?_ (values _ p hin i0 i1))
  rw [← a0, ← a1, ← a2]

/-- The seven parts of the certificate together. -/
theorem claim : Cert.Claim := ⟨Cert.Kernel.Gen.facts, Cert.KernelIdeal.Gen.facts, Cert.ReferenceIdeal.Gen.facts, preFacts,
  fun m g _ => Cert.Kernel.Gen.frame m g, fun m g _ => Cert.KernelIdeal.Gen.frame m g, fun m g _ => Cert.KernelIdeal.Gen.frame m g,
  reference_frame, fun m g _ => reference_frame m g trivial, trivial, algebraic⟩

end Cert.Proof

end
